-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "guard" .f32 0x310F07D5#32 (((1 / 1000000000) * ((Real.log 2)⁻¹ * (Real.log 2)⁻¹) : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S32x8192 : Shape := ⟨2, ![32, 8192]⟩
abbrev S16x512 : Shape := ⟨2, ![16, 512]⟩
abbrev S16x512x3 : Shape := ⟨3, ![16, 512, 3]⟩
abbrev S32x64 : Shape := ⟨2, ![32, 64]⟩
abbrev S_ : Shape := ⟨0, ![]⟩

class Facts : Prop where
  bcast_S_S16x512 : S_.BroadcastsInDim S16x512 (![] : Fin 0 → Fin S16x512.rank)
  bcast_S_S16x512x3 : S_.BroadcastsInDim S16x512x3 (![] : Fin 0 → Fin S16x512x3.rank)

variable [Facts]

def fn {F : FTy → Type} [FloatOps F] (main_arg0 : FVec F S32x8192 .f32) (main_arg1 : IVec S16x512 32) (main_arg2 : FVec F S16x512x3 .f32) (main_arg3 : FVec F S32x64 .f32) : IVec S16x512 1 × IVec S16x512x3 1 :=
  let main_c : IVec S_ 32 := constantI S_ 32 1#32
  let main_v0 : IVec S16x512 32 := broadcastInDim S16x512 ![] bcast_S_S16x512 main_c
  let main_v1 : IVec S16x512 1 := cmpi .sge main_arg1 main_v0
  let main_v2 : FVec F S16x512x3 .f32 := Host.absf main_arg2
  let main_cst : FVec F S_ .f32 := constant S_ .f32 0x7F800000#32
  let main_v3 : FVec F S16x512x3 .f32 := broadcastInDim S16x512x3 ![] bcast_S_S16x512x3 main_cst
  let main_v4 : IVec S16x512x3 1 := cmpf .olt main_v2 main_v3
  (main_v1, main_v4)
-- ==== Kernel.lean ====
abbrev S32x8192 : Shape := ⟨2, ![32, 8192]⟩
abbrev S16x512 : Shape := ⟨2, ![16, 512]⟩
abbrev S16x512x3 : Shape := ⟨3, ![16, 512, 3]⟩
abbrev S32x64 : Shape := ⟨2, ![32, 64]⟩
abbrev S16x1x128 : Shape := ⟨3, ![16, 1, 128]⟩
abbrev S32x4096 : Shape := ⟨2, ![32, 4096]⟩
abbrev S8x512x3 : Shape := ⟨3, ![8, 512, 3]⟩
abbrev S8x1x128 : Shape := ⟨3, ![8, 1, 128]⟩
abbrev S4096x64 : Shape := ⟨2, ![4096, 64]⟩
abbrev S128x128 : Shape := ⟨2, ![128, 128]⟩
abbrev S512x64 : Shape := ⟨2, ![512, 64]⟩
abbrev S1x512x3 : Shape := ⟨3, ![1, 512, 3]⟩
abbrev S512x3 : Shape := ⟨2, ![512, 3]⟩
abbrev S3x512 : Shape := ⟨2, ![3, 512]⟩
abbrev S128x64 : Shape := ⟨2, ![128, 64]⟩
abbrev S128x3 : Shape := ⟨2, ![128, 3]⟩
abbrev S3x128 : Shape := ⟨2, ![3, 128]⟩
abbrev S128x1 : Shape := ⟨2, ![128, 1]⟩
abbrev S1x128 : Shape := ⟨2, ![1, 128]⟩
abbrev S1x128x128 : Shape := ⟨3, ![1, 128, 128]⟩
abbrev S1 : Shape := ⟨1, ![1]⟩
abbrev S1x1x1 : Shape := ⟨3, ![1, 1, 1]⟩
abbrev S1x1x128 : Shape := ⟨3, ![1, 1, 128]⟩
abbrev S16x1x1 : Shape := ⟨3, ![16, 1, 1]⟩
abbrev S16 : Shape := ⟨1, ![16]⟩

abbrev nBuf : Space → Nat
  | .hbm => 7
  | .vmem => 7
  | .smem => 0
  | _ => 0

abbrev bufTy : (tb : Table) → Fin (tcTables nBuf tb) → BufTy
  | .hbm, ⟨0, _⟩ => ⟨S32x8192, .f32⟩
  | .hbm, ⟨1, _⟩ => ⟨S16x512, .i32⟩
  | .hbm, ⟨2, _⟩ => ⟨S16x512x3, .f32⟩
  | .hbm, ⟨3, _⟩ => ⟨S32x64, .f32⟩
  | .hbm, ⟨4, _⟩ => ⟨S16x1x128, .f32⟩
  | .hbm, ⟨5, _⟩ => ⟨S16x1x1, .f32⟩
  | .hbm, ⟨6, _⟩ => ⟨S16, .f32⟩
  | .local _ .vmem, ⟨0, _⟩ => ⟨S32x4096, .f32⟩
  | .local _ .vmem, ⟨1, _⟩ => ⟨S32x4096, .f32⟩
  | .local _ .vmem, ⟨2, _⟩ => ⟨S8x512x3, .f32⟩
  | .local _ .vmem, ⟨3, _⟩ => ⟨S8x512x3, .f32⟩
  | .local _ .vmem, ⟨4, _⟩ => ⟨S32x64, .f32⟩
  | .local _ .vmem, ⟨5, _⟩ => ⟨S8x1x128, .f32⟩
  | .local _ .vmem, ⟨6, _⟩ => ⟨S8x1x128, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "guard" => some (((1 / 1000000000) * ((Real.log 2)⁻¹ * (Real.log 2)⁻¹) : ℝ) : EReal)
  | "log2e" => some (((Real.log 2)⁻¹ : ℝ) : EReal)
  | _ => none
-- ==== ReferenceIdeal.lean ====
abbrev S32x8192 : Shape := ⟨2, ![32, 8192]⟩
abbrev S16x512 : Shape := ⟨2, ![16, 512]⟩
abbrev S16x512x3 : Shape := ⟨3, ![16, 512, 3]⟩
abbrev S32x64 : Shape := ⟨2, ![32, 64]⟩
abbrev S_ : Shape := ⟨0, ![]⟩
abbrev S16x512x1 : Shape := ⟨3, ![16, 512, 1]⟩
abbrev S1 : Shape := ⟨1, ![1]⟩
abbrev S1x1x1 : Shape := ⟨3, ![1, 1, 1]⟩
abbrev S16 : Shape := ⟨1, ![16]⟩
abbrev S16x1 : Shape := ⟨2, ![16, 1]⟩
abbrev S8192 : Shape := ⟨1, ![8192]⟩
abbrev S8192x1 : Shape := ⟨2, ![8192, 1]⟩
abbrev S1x1 : Shape := ⟨2, ![1, 1]⟩
abbrev S8192x32 : Shape := ⟨2, ![8192, 32]⟩
abbrev S8192x64 : Shape := ⟨2, ![8192, 64]⟩
abbrev S16x512x64 : Shape := ⟨3, ![16, 512, 64]⟩
abbrev S16x512x1x3 : Shape := ⟨4, ![16, 512, 1, 3]⟩
abbrev S16x1x512x3 : Shape := ⟨4, ![16, 1, 512, 3]⟩
abbrev S16x512x512x3 : Shape := ⟨4, ![16, 512, 512, 3]⟩
abbrev S16x512x512 : Shape := ⟨3, ![16, 512, 512]⟩
abbrev S512x512 : Shape := ⟨2, ![512, 512]⟩
abbrev S1x512x512 : Shape := ⟨3, ![1, 512, 512]⟩
abbrev S16x1x512 : Shape := ⟨3, ![16, 1, 512]⟩

abbrev nBuf : Space → Nat
  | .hbm => 133
  | .vmem => 0
  | .smem => 0
  | _ => 0

abbrev hbmTy0_0 (i : Nat) : BufTy := match i % 128 with
  | 0 => ⟨S32x8192, .f32⟩
  | 1 => ⟨S16x512, .i32⟩
  | 2 => ⟨S16x512x3, .f32⟩
  | 3 => ⟨S32x64, .f32⟩
  | 4 => ⟨S16x512, .i32⟩
  | 5 => ⟨S16x512, .i32⟩
  | 6 => ⟨S16x512, .i32⟩
  | 7 => ⟨S16x512, .i32⟩
  | 8 => ⟨S_, .i32⟩
  | 9 => ⟨S16x512, .i32⟩
  | 10 => ⟨S16x512, .i1⟩
  | 11 => ⟨S_, .i32⟩
  | 12 => ⟨S16x512, .i32⟩
  | 13 => ⟨S16x512, .i32⟩
  | 14 => ⟨S16x512, .i32⟩
  | 15 => ⟨S16x512x1, .i32⟩
  | 16 => ⟨S1, .i32⟩
  | 17 => ⟨S_, .i32⟩
  | 18 => ⟨S16x512x1, .i32⟩
  | 19 => ⟨S16x512x1, .i1⟩
  | 20 => ⟨S1x1x1, .i32⟩
  | 21 => ⟨S16x512x1, .i32⟩
  | 22 => ⟨S16x512x1, .i1⟩
  | 23 => ⟨S16x512x1, .i1⟩
  | 24 => ⟨S_, .i1⟩
  | 25 => ⟨S16x512, .i1⟩
  | 26 => ⟨S16x512, .i32⟩
  | 27 => ⟨S_, .i32⟩
  | 28 => ⟨S16x512, .i32⟩
  | 29 => ⟨S16x512, .i32⟩
  | 30 => ⟨S16x512x1, .i32⟩
  | 31 => ⟨S_, .i32⟩
  | 32 => ⟨S16x512x1, .i32⟩
  | 33 => ⟨S16x512x1, .i1⟩
  | 34 => ⟨S_, .i32⟩
  | 35 => ⟨S16x512x1, .i32⟩
  | 36 => ⟨S16x512x1, .i32⟩
  | 37 => ⟨S16x512x1, .i32⟩
  | 38 => ⟨S1, .i32⟩
  | 39 => ⟨S_, .i32⟩
  | 40 => ⟨S16x512x1, .i32⟩
  | 41 => ⟨S16x512x1, .i1⟩
  | 42 => ⟨S1x1x1, .i32⟩
  | 43 => ⟨S16x512x1, .i32⟩
  | 44 => ⟨S16x512x1, .i1⟩
  | 45 => ⟨S16x512x1, .i1⟩
  | 46 => ⟨S_, .i1⟩
  | 47 => ⟨S16x512, .i1⟩
  | 48 => ⟨S16x512x3, .f32⟩
  | 49 => ⟨S16x512x3, .i1⟩
  | 50 => ⟨S_, .f32⟩
  | 51 => ⟨S16x512x3, .f32⟩
  | 52 => ⟨S16x512x3, .f32⟩
  | 53 => ⟨S16, .i32⟩
  | 54 => ⟨S_, .i32⟩
  | 55 => ⟨S16, .i32⟩
  | 56 => ⟨S16, .i32⟩
  | 57 => ⟨S16x1, .i32⟩
  | 58 => ⟨S16x512, .i32⟩
  | 59 => ⟨S16x512, .i32⟩
  | 60 => ⟨S8192, .i32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S1, .i32⟩
  | 70 => ⟨S_, .i32⟩
  | 71 => ⟨S8192x1, .i32⟩
  | 72 => ⟨S8192x1, .i1⟩
  | 73 => ⟨S1x1, .i32⟩
  | 74 => ⟨S8192x1, .i32⟩
  | 75 => ⟨S8192x1, .i1⟩
  | 76 => ⟨S8192x1, .i1⟩
  | 77 => ⟨S_, .i1⟩
  | 78 => ⟨S8192, .i1⟩
  | 79 => ⟨S32x8192, .f32⟩
  | 80 => ⟨S32x8192, .i1⟩
  | 81 => ⟨S_, .f32⟩
  | 82 => ⟨S32x8192, .f32⟩
  | 83 => ⟨S32x8192, .f32⟩
  | 84 => ⟨S8192x32, .f32⟩
  | 85 => ⟨S8192x64, .f32⟩
  | 86 => ⟨S16x512x64, .f32⟩
  | 87 => ⟨S16x512x1x3, .f32⟩
  | 88 => ⟨S16x1x512x3, .f32⟩
  | 89 => ⟨S16x512x512x3, .f32⟩
  | 90 => ⟨S16x512x512x3, .f32⟩
  | 91 => ⟨S16x512x512x3, .f32⟩
  | 92 => ⟨S_, .f32⟩
  | 93 => ⟨S_, .f32⟩
  | 94 => ⟨S_, .f32⟩
  | 95 => ⟨S16x512x512x3, .f32⟩
  | 96 => ⟨S_, .f32⟩
  | 97 => ⟨S16x512x512, .f32⟩
  | 98 => ⟨S16x512x512, .f32⟩
  | 99 => ⟨S16x512x512, .f32⟩
  | 100 => ⟨S16x512x512, .f32⟩
  | 101 => ⟨S16x512x512, .f32⟩
  | 102 => ⟨S16x512x512, .f32⟩
  | 103 => ⟨S512x512, .i32⟩
  | 104 => ⟨S512x512, .i32⟩
  | 105 => ⟨S_, .i32⟩
  | 106 => ⟨S512x512, .i32⟩
  | 107 => ⟨S512x512, .i32⟩
  | 108 => ⟨S512x512, .i1⟩
  | 109 => ⟨S512x512, .f32⟩
  | 110 => ⟨S_, .f32⟩
  | 111 => ⟨S512x512, .f32⟩
  | 112 => ⟨S512x512, .f32⟩
  | 113 => ⟨S1x512x512, .f32⟩
  | 114 => ⟨S16x512x512, .f32⟩
  | 115 => ⟨S16x512x512, .f32⟩
  | 116 => ⟨S16x512x512, .f32⟩
  | 117 => ⟨S_, .i32⟩
  | 118 => ⟨S16x512, .i32⟩
  | 119 => ⟨S16x512, .i1⟩
  | 120 => ⟨S16x512, .f32⟩
  | 121 => ⟨S16x512x1, .f32⟩
  | 122 => ⟨S16x1x512, .f32⟩
  | 123 => ⟨S16x512x512, .f32⟩
  | 124 => ⟨S16x512x512, .f32⟩
  | 125 => ⟨S16x512x512, .f32⟩
  | 126 => ⟨S16x512x512, .f32⟩
  | 127 => ⟨S16x512x512, .f32⟩
  | _ => ⟨S32x8192, .f32⟩

abbrev hbmTy0_1 (i : Nat) : BufTy := match i % 128 with
  | 0 => ⟨S_, .f32⟩
  | 1 => ⟨S16, .f32⟩
  | 2 => ⟨S_, .f32⟩
  | 3 => ⟨S16, .f32⟩
  | 4 => ⟨S16, .f32⟩
  | _ => ⟨S32x8192, .f32⟩

abbrev hbmTy (i : Nat) : BufTy := match i / 128 with
  | 0 => hbmTy0_0 i
  | 1 => hbmTy0_1 i
  | _ => ⟨S32x8192, .f32⟩

abbrev bufTy : (tb : Table) → Fin (tcTables nBuf tb) → BufTy
  | .hbm, ⟨i, _⟩ => hbmTy i
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1_0 : Ref sig .tc := ⟨.hbm, 6, rfl⟩
abbrev main_v1 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_c_1 : Ref sig .tc := ⟨.hbm, 16, rfl⟩
abbrev main_call1_c_2 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_3 : Ref sig .tc := ⟨.hbm, 24, rfl⟩
abbrev main_call1_v12 : Ref sig .tc := ⟨.hbm, 25, rfl⟩
abbrev main_call1_v13 : Ref sig .tc := ⟨.hbm, 26, rfl⟩
abbrev main_call1_c_4 : Ref sig .tc := ⟨.hbm, 27, rfl⟩
abbrev main_call1_v14 : Ref sig .tc := ⟨.hbm, 28, rfl⟩
abbrev main_v2 : Ref sig .tc := ⟨.hbm, 29, rfl⟩
abbrev main_v3 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_c_1 : Ref sig .tc := ⟨.hbm, 38, rfl⟩
abbrev main_call2_c_2 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_c_3 : Ref sig .tc := ⟨.hbm, 46, rfl⟩
abbrev main_call2_v11 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v4 : Ref sig .tc := ⟨.hbm, 52, rfl⟩
abbrev main_v5 : Ref sig .tc := ⟨.hbm, 53, rfl⟩
abbrev main_c : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_call3_c : Ref sig .tc := ⟨.hbm, 61, rfl⟩
abbrev main_call3_v0 : Ref sig .tc := ⟨.hbm, 62, rfl⟩
abbrev main_call3_v1 : Ref sig .tc := ⟨.hbm, 63, rfl⟩
abbrev main_call3_c_0 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_c_1 : Ref sig .tc := ⟨.hbm, 69, rfl⟩
abbrev main_call3_c_2 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_3 : Ref sig .tc := ⟨.hbm, 77, rfl⟩
abbrev main_call3_v12 : Ref sig .tc := ⟨.hbm, 78, rfl⟩
abbrev main_call3_v13 : Ref sig .tc := ⟨.hbm, 79, rfl⟩
abbrev main_call3_v14 : Ref sig .tc := ⟨.hbm, 80, rfl⟩
abbrev main_call3_cst : Ref sig .tc := ⟨.hbm, 81, rfl⟩
abbrev main_call3_v15 : Ref sig .tc := ⟨.hbm, 82, rfl⟩
abbrev main_v12 : Ref sig .tc := ⟨.hbm, 83, rfl⟩
abbrev main_v13 : Ref sig .tc := ⟨.hbm, 84, rfl⟩
abbrev main_v14 : Ref sig .tc := ⟨.hbm, 85, rfl⟩
abbrev main_v15 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_v19 : Ref sig .tc := ⟨.hbm, 90, rfl⟩
abbrev main_v20 : Ref sig .tc := ⟨.hbm, 91, rfl⟩
abbrev main_cst : Ref sig .tc := ⟨.hbm, 92, rfl⟩
abbrev main_cst_0 : Ref sig .tc := ⟨.hbm, 93, rfl⟩
abbrev main_v21 : Ref sig .tc := ⟨.hbm, 94, rfl⟩
abbrev main_v22 : Ref sig .tc := ⟨.hbm, 95, rfl⟩
abbrev main_cst_1 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_c_2 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_cst_3 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_c_4 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_cst_5 : Ref sig .tc := ⟨.hbm, 128, rfl⟩
abbrev main_v51 : Ref sig .tc := ⟨.hbm, 129, rfl⟩
abbrev main_cst_6 : Ref sig .tc := ⟨.hbm, 130, rfl⟩
abbrev main_v52 : Ref sig .tc := ⟨.hbm, 131, rfl⟩
abbrev main_v53 : Ref sig .tc := ⟨.hbm, 132, rfl⟩

abbrev nD : Nat := 1
abbrev τ : Topo := Topo.v7x

variable {F : FTy → Type} [FloatOps F]
-- ==== Proof.Tiles.lean ====
/- The kernel's body as one tile function used throughout: what one molecule's energy block holds, in terms of the
   molecule's feature rows and coordinates, for any float values. The printed body runs the eight molecules of a grid
   point and the ten tiles of each one after another; here they are the same two functions at their offsets. -/
module

public import proofs.«01_k».proof.Proof.Gen.KernelIdeal.Frame

@[expose] public section

set_option maxRecDepth 16384

noncomputable section

namespace Cert.KernelIdeal.Tiles

open Idealize.ShloMosaic Idealize.SL.Sem Cert.KernelIdeal Cert.KernelIdeal.Gen
open Facts

variable {F : FTy → Type} [FloatOps F] [Named F]

/-- The features of all rows of a block: the block's encodings, transposed, times the weights. -/
def feats (p : FVec F S32x4096 .f32) (w : FVec F S32x64 .f32) : FVec F S4096x64 .f32 :=
  matmul dot_S32x4096_S32x64_S4096x64_0_0_1_1_n_n none p w (constant S4096x64 .f32 0x00000000#32)

/-- The coordinates of one molecule, scaled by 1 / log 2. -/
def scaled (x : Vec F S1x512x3 .f32) : FVec F S512x3 .f32 :=
  mulf (shapeCast S512x3 x shapeCasts_S1x512x3_S512x3) (broadcast S512x3 (Named.named κ "log2e" 0x3FB8AA3B#32))

/-- The scaled coordinates, transposed. -/
def scaledT (x : Vec F S1x512x3 .f32) : FVec F S3x512 .f32 :=
  transpose S3x512 [1, 0] (scaled x) transposes_S512x3_p1_0_S3x512

/-- The row atoms' coordinate at one column of `ci` less the column atoms' coordinate at one row of `cj`, squared. -/
def sqDelta (ci : FVec F S128x1 .f32) (cj : FVec F S1x128 .f32) : FVec F S128x128 .f32 :=
  mulf (subf (broadcastTo S128x128 ci broadcasts_S128x1_S128x128) (broadcastTo S128x128 cj broadcasts_S1x128_S128x128))
    (subf (broadcastTo S128x128 ci broadcasts_S128x1_S128x128) (broadcastTo S128x128 cj broadcasts_S1x128_S128x128))

/-- The guarded squared distances of a tile. -/
def sqDist (ci : FVec F S128x3 .f32) (cj : FVec F S3x128 .f32) : FVec F S128x128 .f32 :=
  addf (addf (addf (broadcast S128x128 (Named.named κ "guard" 0x310F07D5#32))
    (sqDelta (extractStridedSlice S128x1 ![0, 0] ci slices_S128x3_o0_0_S128x1) (extractStridedSlice S1x128 ![0, 0] cj slices_S3x128_o0_0_S1x128)))
    (sqDelta (extractStridedSlice S128x1 ![0, 1] ci slices_S128x3_o0_1_S128x1) (extractStridedSlice S1x128 ![1, 0] cj slices_S3x128_o1_0_S1x128)))
    (sqDelta (extractStridedSlice S128x1 ![0, 2] ci slices_S128x3_o0_2_S128x1) (extractStridedSlice S1x128 ![2, 0] cj slices_S3x128_o2_0_S1x128))

/-- Minus the distances of a tile: zero less the squared distance times its reciprocal square root. -/
def negDist (ci : FVec F S128x3 .f32) (cj : FVec F S3x128 .f32) : FVec F S128x128 .f32 :=
  subf (broadcast S128x128 (Scalar.ofBits .f32 0x00000000#32)) (mulf (sqDist ci cj) (rsqrt (sqDist ci cj)))

/-- The products of the row atoms' features with the column atoms'. -/
def pairs (fi fj : FVec F S128x64 .f32) : FVec F S128x128 .f32 :=
  matmul dot_S128x64_S128x64_S128x128_1_1_0_0_n_n none fi fj (constant S128x128 .f32 0x00000000#32)

/-- The terms of a tile above the diagonal. -/
def offTile (fi fj : FVec F S128x64 .f32) (ci : FVec F S128x3 .f32) (cj : FVec F S3x128 .f32) : FVec F S128x128 .f32 :=
  mulf (exp2 (negDist ci cj)) (pairs fi fj)

/-- The terms of a tile on the diagonal: halved, and zero where row and column are the same atom. -/
def diagTile (fi fj : FVec F S128x64 .f32) (ci : FVec F S128x3 .f32) (cj : FVec F S3x128 .f32) : FVec F S128x128 .f32 :=
  mulf (select (cmpi .eq (iota .tc S128x128 32 [0] iota_S128x128_d0_w32) (iota .tc S128x128 32 [1] iota_S128x128_d1_w32))
    (broadcast S128x128 (Scalar.ofBits .f32 0x00000000#32))
    (exp2 (subf (negDist ci cj) (broadcast S128x128 (Scalar.ofBits .f32 0x3F800000#32))))) (pairs fi fj)

/-- Feature rows 0 to 127. -/
def ft0 (f : FVec F S512x64 .f32) : FVec F S128x64 .f32 := extractStridedSlice S128x64 ![0, 0] f slices_S512x64_o0_0_S128x64
/-- Coordinate rows 0 to 127. -/
def ci0 (x : FVec F S512x3 .f32) : FVec F S128x3 .f32 := extractStridedSlice S128x3 ![0, 0] x slices_S512x3_o0_0_S128x3
/-- Transposed coordinate columns 0 to 127. -/
def cj0 (x : FVec F S3x512 .f32) : FVec F S3x128 .f32 := extractStridedSlice S3x128 ![0, 0] x slices_S3x512_o0_0_S3x128
/-- Feature rows 128 to 255. -/
def ft1 (f : FVec F S512x64 .f32) : FVec F S128x64 .f32 := extractStridedSlice S128x64 ![128, 0] f slices_S512x64_o128_0_S128x64
/-- Coordinate rows 128 to 255. -/
def ci1 (x : FVec F S512x3 .f32) : FVec F S128x3 .f32 := extractStridedSlice S128x3 ![128, 0] x slices_S512x3_o128_0_S128x3
/-- Transposed coordinate columns 128 to 255. -/
def cj1 (x : FVec F S3x512 .f32) : FVec F S3x128 .f32 := extractStridedSlice S3x128 ![0, 128] x slices_S3x512_o0_128_S3x128
/-- Feature rows 256 to 383. -/
def ft2 (f : FVec F S512x64 .f32) : FVec F S128x64 .f32 := extractStridedSlice S128x64 ![256, 0] f slices_S512x64_o256_0_S128x64
/-- Coordinate rows 256 to 383. -/
def ci2 (x : FVec F S512x3 .f32) : FVec F S128x3 .f32 := extractStridedSlice S128x3 ![256, 0] x slices_S512x3_o256_0_S128x3
/-- Transposed coordinate columns 256 to 383. -/
def cj2 (x : FVec F S3x512 .f32) : FVec F S3x128 .f32 := extractStridedSlice S3x128 ![0, 256] x slices_S3x512_o0_256_S3x128
/-- Feature rows 384 to 511. -/
def ft3 (f : FVec F S512x64 .f32) : FVec F S128x64 .f32 := extractStridedSlice S128x64 ![384, 0] f slices_S512x64_o384_0_S128x64
/-- Coordinate rows 384 to 511. -/
def ci3 (x : FVec F S512x3 .f32) : FVec F S128x3 .f32 := extractStridedSlice S128x3 ![384, 0] x slices_S512x3_o384_0_S128x3
/-- Transposed coordinate columns 384 to 511. -/
def cj3 (x : FVec F S3x512 .f32) : FVec F S3x128 .f32 := extractStridedSlice S3x128 ![0, 384] x slices_S3x512_o0_384_S3x128

/-- The ten tiles of a molecule, added up in the kernel's order. -/
def tiles (f : FVec F S512x64 .f32) (x : FVec F S512x3 .f32) (y : FVec F S3x512 .f32) : FVec F S128x128 .f32 :=
  addf (addf (addf (addf (addf (addf (addf (addf (addf (addf (broadcast S128x128 (Scalar.ofBits .f32 0x00000000#32))
    (diagTile (ft0 f) (ft0 f) (ci0 x) (cj0 y)))
    (offTile (ft0 f) (ft1 f) (ci0 x) (cj1 y)))
    (offTile (ft0 f) (ft2 f) (ci0 x) (cj2 y)))
    (offTile (ft0 f) (ft3 f) (ci0 x) (cj3 y)))
    (diagTile (ft1 f) (ft1 f) (ci1 x) (cj1 y)))
    (offTile (ft1 f) (ft2 f) (ci1 x) (cj2 y)))
    (offTile (ft1 f) (ft3 f) (ci1 x) (cj3 y)))
    (diagTile (ft2 f) (ft2 f) (ci2 x) (cj2 y)))
    (offTile (ft2 f) (ft3 f) (ci2 x) (cj3 y)))
    (diagTile (ft3 f) (ft3 f) (ci3 x) (cj3 y))

/-- The energy block of one molecule: the sum of its tiles, on every lane. -/
def energy (a : FVec F S128x128 .f32) : FVec F S1x1x128 .f32 :=
  shapeCast S1x1x128 (mulf (broadcast S1x128 (extractAt ![0, 0, 0] (shapeCast S1x1x1 (multiReduction .add [1, 2] S1
    (shapeCast S1x128x128 a shapeCasts_S128x128_S1x128x128) 0x00000000#32 reduces_S1x128x128_S1 (.inl rfl) rfl)
    shapeCasts_S1_S1x1x1) inpos_S1x1x1_p0_0_0)) (broadcast S1x128 (Scalar.ofBits .f32 0x3F800000#32))) shapeCasts_S1x128_S1x1x128

/-- The energy block of a molecule from its features and its coordinates. -/
def molecule (f : FVec F S512x64 .f32) (x : Vec F S1x512x3 .f32) : FVec F S1x1x128 .f32 :=
  energy (tiles f (scaled x) (scaledT x))

set_option maxHeartbeats 4000000 in
/-- The block the body leaves: each of the eight molecules' energies, the last stored first. -/
theorem out_eq (x0 : Vec F S32x4096 .f32) (x1 : Vec F S8x512x3 .f32) (x2 : Vec F S32x64 .f32) :
    out0_3 x0 x1 x2 = View.canon [
      ⟨r0_17, molecule (extractStridedSlice S512x64 ![3584, 0] (feats (View.ld x0 r0_0) (View.ld x2 r0_1)) slices_S4096x64_o3584_0_S512x64) (View.ld x1 r0_16)⟩,
      ⟨r0_15, molecule (extractStridedSlice S512x64 ![3072, 0] (feats (View.ld x0 r0_0) (View.ld x2 r0_1)) slices_S4096x64_o3072_0_S512x64) (View.ld x1 r0_14)⟩,
      ⟨r0_13, molecule (extractStridedSlice S512x64 ![2560, 0] (feats (View.ld x0 r0_0) (View.ld x2 r0_1)) slices_S4096x64_o2560_0_S512x64) (View.ld x1 r0_12)⟩,
      ⟨r0_11, molecule (extractStridedSlice S512x64 ![2048, 0] (feats (View.ld x0 r0_0) (View.ld x2 r0_1)) slices_S4096x64_o2048_0_S512x64) (View.ld x1 r0_10)⟩,
      ⟨r0_9, molecule (extractStridedSlice S512x64 ![1536, 0] (feats (View.ld x0 r0_0) (View.ld x2 r0_1)) slices_S4096x64_o1536_0_S512x64) (View.ld x1 r0_8)⟩,
      ⟨r0_7, molecule (extractStridedSlice S512x64 ![1024, 0] (feats (View.ld x0 r0_0) (View.ld x2 r0_1)) slices_S4096x64_o1024_0_S512x64) (View.ld x1 r0_6)⟩,
      ⟨r0_5, molecule (extractStridedSlice S512x64 ![512, 0] (feats (View.ld x0 r0_0) (View.ld x2 r0_1)) slices_S4096x64_o512_0_S512x64) (View.ld x1 r0_4)⟩,
      ⟨r0_3, molecule (extractStridedSlice S512x64 ![0, 0] (feats (View.ld x0 r0_0) (View.ld x2 r0_1)) slices_S4096x64_o0_0_S512x64) (View.ld x1 r0_2)⟩] := by
  chain_rfl

end Cert.KernelIdeal.Tiles

end
-- ==== Proof.Energy.lean ====
/- The mathematics of the energy, apart from any program: distances and overlaps of finite coordinates as extended
   reals, and half the sum over all ordered pairs of 512 atoms as the sum over ten tiles of 128 by 128 pairs. -/
module

public import Idealize.ShloMosaic.PureOps.Ideal

@[expose] public section

noncomputable section

namespace Cert.Energy

open Idealize.ShloMosaic

/-! ## Overlaps -/

/-- The guarded squared distance of two points. -/
def sq (a b : Fin 3 → ℝ) : ℝ := 1 / 1000000000 + ((a 0 - b 0) ^ 2 + (a 1 - b 1) ^ 2 + (a 2 - b 2) ^ 2)

theorem sq_pos (a b : Fin 3 → ℝ) : 0 < sq a b := by unfold sq; positivity

/-- The squared distance does not change when the two points are exchanged. -/
theorem sq_comm (a b : Fin 3 → ℝ) : sq a b = sq b a := by unfold sq; ring

/-- The overlap of two points. -/
def ov (a b : Fin 3 → ℝ) : ℝ := Real.exp (-Real.sqrt (sq a b))

/-- The kernel's scale, 1 / log 2. -/
def lg : ℝ := (Real.log 2)⁻¹

theorem lg_pos : 0 < lg := inv_pos.mpr (Real.log_pos (by norm_num))

/-- The kernel's guarded squared distance of scaled points is the squared distance scaled twice. -/
theorem scaled_sq (a b : Fin 3 → ℝ) :
    (((1 / 1000000000) * (lg * lg) : ℝ) : EReal)
        + ((a 0 : EReal) * (lg : EReal) - (b 0 : EReal) * (lg : EReal)) * ((a 0 : EReal) * (lg : EReal) - (b 0 : EReal) * (lg : EReal))
        + ((a 1 : EReal) * (lg : EReal) - (b 1 : EReal) * (lg : EReal)) * ((a 1 : EReal) * (lg : EReal) - (b 1 : EReal) * (lg : EReal))
        + ((a 2 : EReal) * (lg : EReal) - (b 2 : EReal) * (lg : EReal)) * ((a 2 : EReal) * (lg : EReal) - (b 2 : EReal) * (lg : EReal))
      = ((lg ^ 2 * sq a b : ℝ) : EReal) := by
  simp only [← EReal.coe_mul, ← EReal.coe_sub, ← EReal.coe_add]
  congr 1
  unfold sq; ring

/-- The squared distance times its reciprocal square root is the scaled distance. -/
theorem scaled_root (a b : Fin 3 → ℝ) :
    ((lg ^ 2 * sq a b : ℝ) : EReal) * Ideal.rsqrt ((lg ^ 2 * sq a b : ℝ) : EReal) = ((lg * Real.sqrt (sq a b) : ℝ) : EReal) := by
  have hp : 0 < lg ^ 2 * sq a b := mul_pos (pow_pos lg_pos 2) (sq_pos a b)
  rw [Ideal.rsqrt_coe, if_neg (not_lt.mpr hp.le), if_neg hp.ne', ← EReal.coe_mul]
  congr 1
  have h1 : Real.sqrt (lg ^ 2 * sq a b) = lg * Real.sqrt (sq a b) := by
    rw [Real.sqrt_mul (sq_nonneg lg), Real.sqrt_sq lg_pos.le]
  have h2 : 0 < Real.sqrt (sq a b) := Real.sqrt_pos.mpr (sq_pos a b)
  rw [h1]
  have h3 : lg ^ 2 * sq a b = (lg * Real.sqrt (sq a b)) * (lg * Real.sqrt (sq a b)) := by
    have := Real.mul_self_sqrt (sq_pos a b).le
    calc lg ^ 2 * sq a b = lg ^ 2 * (Real.sqrt (sq a b) * Real.sqrt (sq a b)) := by rw [this]
      _ = _ := by ring
  rw [h3]
  have h4 : lg * Real.sqrt (sq a b) ≠ 0 := (mul_pos lg_pos h2).ne'
  field_simp

/-- A power of two of a scaled number is its exponential. -/
theorem two_rpow (s : ℝ) : Real.rpow 2 (-(lg * s)) = Real.exp (-s) := by
  have h : Real.log 2 ≠ 0 := (Real.log_pos (by norm_num)).ne'
  show (2 : ℝ) ^ (-(lg * s)) = _
  rw [Real.rpow_def_of_pos (by norm_num)]
  congr 1
  unfold lg; field_simp

/-- The kernel's overlap above the diagonal. -/
theorem exp2_off (a b : Fin 3 → ℝ) :
    Ideal.exp2 (0 - ((lg ^ 2 * sq a b : ℝ) : EReal) * Ideal.rsqrt ((lg ^ 2 * sq a b : ℝ) : EReal)) = (ov a b : EReal) := by
  rw [scaled_root, ← EReal.coe_zero, ← EReal.coe_sub, Ideal.exp2_coe, zero_sub, two_rpow]; rfl

/-- The kernel's overlap on the diagonal tiles is half the overlap. -/
theorem exp2_diag (a b : Fin 3 → ℝ) :
    Ideal.exp2 (0 - ((lg ^ 2 * sq a b : ℝ) : EReal) * Ideal.rsqrt ((lg ^ 2 * sq a b : ℝ) : EReal) - 1)
      = ((1 / 2 : ℝ) : EReal) * (ov a b : EReal) := by
  rw [scaled_root, ← EReal.coe_zero, ← EReal.coe_one, ← EReal.coe_sub, ← EReal.coe_sub, Ideal.exp2_coe, ← EReal.coe_mul]
  congr 1
  have h : Real.rpow 2 (0 - lg * Real.sqrt (sq a b) - 1) = Real.rpow 2 (-(lg * Real.sqrt (sq a b))) * (1 / 2) := by
    show (2 : ℝ) ^ (0 - lg * Real.sqrt (sq a b) - 1) = (2 : ℝ) ^ (-(lg * Real.sqrt (sq a b))) * (1 / 2)
    rw [Real.rpow_sub (by norm_num), zero_sub, Real.rpow_one]; ring
  rw [h, two_rpow]; unfold ov; ring

/-- The reference's overlap: the exponential of minus the square root of the squared distance plus one billionth. -/
theorem exp_sqrt (a b : Fin 3 → ℝ) :
    Ideal.exp (-Ideal.sqrt (((a 0 : EReal) - (b 0 : EReal)) * ((a 0 : EReal) - (b 0 : EReal))
        + ((a 1 : EReal) - (b 1 : EReal)) * ((a 1 : EReal) - (b 1 : EReal))
        + ((a 2 : EReal) - (b 2 : EReal)) * ((a 2 : EReal) - (b 2 : EReal)) + ((1 / 1000000000 : ℝ) : EReal)))
      = (ov a b : EReal) := by
  have h : ((a 0 : EReal) - (b 0 : EReal)) * ((a 0 : EReal) - (b 0 : EReal))
        + ((a 1 : EReal) - (b 1 : EReal)) * ((a 1 : EReal) - (b 1 : EReal))
        + ((a 2 : EReal) - (b 2 : EReal)) * ((a 2 : EReal) - (b 2 : EReal)) + ((1 / 1000000000 : ℝ) : EReal) = (sq a b : EReal) := by
    simp only [← EReal.coe_mul, ← EReal.coe_sub, ← EReal.coe_add]
    congr 1
    unfold sq; ring
  rw [h, Ideal.sqrt_coe, if_neg (not_lt.mpr (sq_pos a b).le), ← EReal.coe_neg, Ideal.exp_coe]; rfl

/-! ## Sums -/

/-- One half. -/
abbrev half : EReal := ((1 / 2 : ℝ) : EReal)

theorem half_nonneg : (0 : EReal) ≤ half := EReal.coe_nonneg.mpr (by norm_num)

/-- Half of a sum is the sum of the halves, infinities included. -/
theorem half_add (x y : EReal) : half * (x + y) = half * x + half * y :=
  EReal.left_distrib_of_nonneg_of_ne_top half_nonneg (EReal.coe_ne_top _) x y

/-- Half of a finite sum is the sum of the halves. -/
theorem half_sum {ι : Type} (s : Finset ι) (f : ι → EReal) : half * ∑ i ∈ s, f i = ∑ i ∈ s, half * f i := by
  classical
  induction s using Finset.induction_on with
  | empty => simp
  | insert a s ha ih => rw [Finset.sum_insert ha, Finset.sum_insert ha, half_add, ih]

/-- Two halves of a number, infinite or not, add up to it. -/
theorem half_half (x : EReal) : half * x + half * x = x := by
  induction x with
  | bot => rw [EReal.coe_mul_bot_of_pos (by norm_num)]; rfl
  | top => rw [EReal.coe_mul_top_of_pos (by norm_num)]; rfl
  | coe r => rw [← EReal.coe_mul, ← EReal.coe_add]; congr 1; ring

/-- Row `r` of the tile starting at row `o`. -/
def at_ (o : ℕ) (h : o + 128 ≤ 512) (r : Fin 128) : Fin 512 := ⟨o + r.val, by omega⟩

/-- A sum over 512 rows, tile by tile. -/
theorem sum_tiles (f : Fin 512 → EReal) :
    ∑ i, f i = (∑ r, f (at_ 0 (by decide) r)) + (∑ r, f (at_ 128 (by decide) r)) + (∑ r, f (at_ 256 (by decide) r))
      + ∑ r, f (at_ 384 (by decide) r) := by
  have h : ∑ i, f i = ∑ t : Fin 4, ∑ r : Fin 128, f (finProdFinEquiv (t, r)) := by
    rw [← Fintype.sum_prod_type' (f := fun (t : Fin 4) (r : Fin 128) => f (finProdFinEquiv (t, r)))]
    exact (Equiv.sum_comp (finProdFinEquiv (m := 4) (n := 128)) f).symm
  rw [h, Fin.sum_univ_four]
  have e : ∀ (t : Fin 4) (o : ℕ) (ho : o + 128 ≤ 512), o = 128 * t.val →
      ∑ r : Fin 128, f (finProdFinEquiv (t, r)) = ∑ r, f (at_ o ho r) := fun t o ho h =>
    Finset.sum_congr rfl fun r _ => congrArg f (Fin.ext (by simp [finProdFinEquiv, at_]; omega))
  rw [e 0 0 (by decide) rfl, e 1 128 (by decide) rfl, e 2 256 (by decide) rfl, e 3 384 (by decide) rfl]

/-- The sum of a function of pairs over one tile. -/
def tile (G : Fin 512 → Fin 512 → EReal) (o p : ℕ) (ho : o + 128 ≤ 512) (hp : p + 128 ≤ 512) : EReal :=
  ∑ r, ∑ c, G (at_ o ho r) (at_ p hp c)

theorem tile_eq (G : Fin 512 → Fin 512 → EReal) (o p : ℕ) (ho : o + 128 ≤ 512) (hp : p + 128 ≤ 512) :
    tile G o p ho hp = ∑ r, ∑ c, G (at_ o ho r) (at_ p hp c) := rfl

/-- Exchanging rows and columns of a symmetric function of pairs. -/
theorem tile_comm (G : Fin 512 → Fin 512 → EReal) (hG : ∀ i j, G i j = G j i) (o p : ℕ) (ho : o + 128 ≤ 512) (hp : p + 128 ≤ 512) :
    tile G o p ho hp = tile G p o hp ho := by
  unfold tile
  rw [Finset.sum_comm]
  exact Finset.sum_congr rfl fun r _ => Finset.sum_congr rfl fun c _ => hG _ _

/-- The sum over all pairs is the sum of the sixteen tiles. -/
theorem sum_pairs (G : Fin 512 → Fin 512 → EReal) :
    ∑ i, ∑ j, G i j
      = tile G 0 0 (by decide) (by decide) + tile G 0 128 (by decide) (by decide) + tile G 0 256 (by decide) (by decide) + tile G 0 384 (by decide) (by decide)
      + (tile G 128 0 (by decide) (by decide) + tile G 128 128 (by decide) (by decide) + tile G 128 256 (by decide) (by decide) + tile G 128 384 (by decide) (by decide))
      + (tile G 256 0 (by decide) (by decide) + tile G 256 128 (by decide) (by decide) + tile G 256 256 (by decide) (by decide) + tile G 256 384 (by decide) (by decide))
      + (tile G 384 0 (by decide) (by decide) + tile G 384 128 (by decide) (by decide) + tile G 384 256 (by decide) (by decide) + tile G 384 384 (by decide) (by decide)) := by
  rw [sum_tiles]
  simp only [sum_tiles (fun j => G _ j), Finset.sum_add_distrib, tile]

/-- Half the sum of a symmetric function over all ordered pairs: the four diagonal tiles halved, and the six tiles above
    the diagonal whole, added up pair of offsets by pair of offsets. -/
theorem half_sum_pairs (G : Fin 512 → Fin 512 → EReal) (hG : ∀ i j, G i j = G j i) :
    half * ∑ i, ∑ j, G i j = ∑ r : Fin 128, ∑ c : Fin 128,
      (0 + half * G (at_ 0 (by decide) r) (at_ 0 (by decide) c) + G (at_ 0 (by decide) r) (at_ 128 (by decide) c)
        + G (at_ 0 (by decide) r) (at_ 256 (by decide) c) + G (at_ 0 (by decide) r) (at_ 384 (by decide) c)
        + half * G (at_ 128 (by decide) r) (at_ 128 (by decide) c) + G (at_ 128 (by decide) r) (at_ 256 (by decide) c)
        + G (at_ 128 (by decide) r) (at_ 384 (by decide) c)
        + half * G (at_ 256 (by decide) r) (at_ 256 (by decide) c) + G (at_ 256 (by decide) r) (at_ 384 (by decide) c)
        + half * G (at_ 384 (by decide) r) (at_ 384 (by decide) c)) := by
  rw [sum_pairs]
  simp only [zero_add, Finset.sum_add_distrib, ← half_sum, ← tile_eq]
  rw [tile_comm G hG 128 0, tile_comm G hG 256 0, tile_comm G hG 384 0, tile_comm G hG 256 128, tile_comm G hG 384 128,
    tile_comm G hG 384 256]
  generalize tile G 0 0 _ _ = a; generalize tile G 0 128 _ _ = b; generalize tile G 0 256 _ _ = c
  generalize tile G 0 384 _ _ = d; generalize tile G 128 128 _ _ = e; generalize tile G 128 256 _ _ = f
  generalize tile G 128 384 _ _ = g; generalize tile G 256 256 _ _ = h; generalize tile G 256 384 _ _ = k
  generalize tile G 384 384 _ _ = l
  simp only [half_add]
  conv_rhs => rw [← half_half b, ← half_half c, ← half_half d, ← half_half f, ← half_half g, ← half_half k]
  abel

/-! ## The energy -/

/-- The product of two atoms' features. -/
def pairOf (f : Fin 512 → Fin 64 → EReal) (i j : Fin 512) : EReal := ∑ k, f i k * f j k

/-- What the ordered pair `(i, j)` adds to the sum: nothing for an atom with itself. -/
def term (f : Fin 512 → Fin 64 → EReal) (a : Fin 512 → Fin 3 → ℝ) (i j : Fin 512) : EReal :=
  if i = j then 0 else (ov (a i) (a j) : EReal) * pairOf f i j

/-- The energy of a molecule: half the sum over all ordered pairs of its atoms. -/
def energyOf (f : Fin 512 → Fin 64 → EReal) (a : Fin 512 → Fin 3 → ℝ) : EReal := half * ∑ i, ∑ j, term f a i j

theorem term_comm (f : Fin 512 → Fin 64 → EReal) (a : Fin 512 → Fin 3 → ℝ) (i j : Fin 512) : term f a i j = term f a j i := by
  have h1 : ov (a i) (a j) = ov (a j) (a i) := by unfold ov; rw [sq_comm]
  have h2 : pairOf f i j = pairOf f j i := Finset.sum_congr rfl fun k _ => mul_comm _ _
  simp only [term, h1, h2, eq_comm]

/-- Renaming the atoms does not change the sum over pairs. -/
theorem energyOf_perm (f : Fin 512 → Fin 64 → EReal) (a : Fin 512 → Fin 3 → ℝ) (σ : Fin 512 → Fin 512) (hσ : Function.Bijective σ) :
    energyOf (fun i => f (σ i)) (fun i => a (σ i)) = energyOf f a := by
  unfold energyOf
  congr 1
  have h : ∀ i j, term (fun i => f (σ i)) (fun i => a (σ i)) i j = term f a (σ i) (σ j) := fun i j => by
    simp only [term, pairOf, hσ.1.eq_iff]
  simp only [h]
  rw [← (Equiv.ofBijective σ hσ).sum_comp (fun i => ∑ j, term f a i j)]
  exact Finset.sum_congr rfl fun i _ => (Equiv.ofBijective σ hσ).sum_comp (fun j => term f a (σ i) j)

end Cert.Energy

end
-- ==== Proof.KernelRead.lean ====
/- The kernel's energy block at exact values: each molecule's lanes hold its energy. -/
module

public import proofs.«01_k».proof.Proof.Tiles
public import proofs.«01_k».proof.Proof.Energy
public import Idealize.ShloMosaic.Lib.Pointwise

@[expose] public section

set_option maxRecDepth 16384

noncomputable section

namespace Cert.KernelIdeal.Read

open Idealize.ShloMosaic Idealize.ShloMosaic.Pointwise Idealize.SL.Sem Cert.KernelIdeal Cert.KernelIdeal.Gen Cert.KernelIdeal.Tiles
open Cert.Energy

/-- The named constant of the scale is 1 / log 2. -/
theorem log2e_eq : Named.named (F := Ideal) κ "log2e" (φ := .f32) 0x3FB8AA3B#32 = (lg : EReal) := rfl

/-- The named constant of the guard is one billionth, scaled twice. -/
theorem guard_eq : Named.named (F := Ideal) κ "guard" (φ := .f32) 0x310F07D5#32 = (((1 / 1000000000) * (lg * lg) : ℝ) : EReal) := rfl

/-- A tile above the diagonal holds the pairs' terms. -/
theorem off_apply (fi fj : FVec Ideal S128x64 .f32) (ci : FVec Ideal S128x3 .f32) (cj : FVec Ideal S3x128 .f32)
    (f : Fin 512 → Fin 64 → EReal) (a : Fin 512 → Fin 3 → ℝ) (o p : ℕ) (ho : o + 128 ≤ 512) (hp : p + 128 ≤ 512) (hop : o + 128 ≤ p)
    (hfi : ∀ r k, fi (ix2 r k) = f (at_ o ho r) k) (hfj : ∀ r k, fj (ix2 r k) = f (at_ p hp r) k)
    (hci : ∀ r d, ci (ix2 r d) = (a (at_ o ho r) d : EReal) * (lg : EReal))
    (hcj : ∀ r d, cj (ix2 d r) = (a (at_ p hp r) d : EReal) * (lg : EReal)) (r c : Fin 128) :
    offTile fi fj ci cj (ix2 r c) = term f a (at_ o ho r) (at_ p hp c) := by
  pointwise [offTile, negDist, sqDist, sqDelta, pairs]
  have hne : at_ o ho r ≠ at_ p hp c := fun h => by
    have := congrArg Fin.val h
    simp only [at_] at this; omega
  rw [guard_eq]
  simp only [hfi, hfj, hci, hcj, term, if_neg hne, pairOf, scaled_sq]
  exact congrArg (· * _) (exp2_off _ _)

/-- A tile on the diagonal holds half the pairs' terms. -/
theorem diag_apply (fi fj : FVec Ideal S128x64 .f32) (ci : FVec Ideal S128x3 .f32) (cj : FVec Ideal S3x128 .f32)
    (f : Fin 512 → Fin 64 → EReal) (a : Fin 512 → Fin 3 → ℝ) (o : ℕ) (ho : o + 128 ≤ 512)
    (hfi : ∀ r k, fi (ix2 r k) = f (at_ o ho r) k) (hfj : ∀ r k, fj (ix2 r k) = f (at_ o ho r) k)
    (hci : ∀ r d, ci (ix2 r d) = (a (at_ o ho r) d : EReal) * (lg : EReal))
    (hcj : ∀ r d, cj (ix2 d r) = (a (at_ o ho r) d : EReal) * (lg : EReal)) (r c : Fin 128) :
    diagTile fi fj ci cj (ix2 r c) = half * term f a (at_ o ho r) (at_ o ho c) := by
  pointwise [diagTile, negDist, sqDist, sqDelta, pairs]
  rw [guard_eq]
  by_cases h : r = c
  · subst h
    rw [IntOp.cmpi_eq_self, term, if_pos rfl, mul_zero]
    exact Scalar.select_of_eq_one rfl _ _
  · have hne : at_ o ho r ≠ at_ o ho c := fun e => h (by
      have := congrArg Fin.val e
      simp only [at_] at this; exact Fin.ext (by omega))
    have hw : IntOp.cmpi .eq (BitVec.ofNat 32 r.val) (BitVec.ofNat 32 c.val) ≠ 1 := by
      intro e
      have e1 : (BitVec.ofNat 32 r.val) = (BitVec.ofNat 32 c.val) := by
        by_contra hn
        have e0 : BitVec.ofBool (BitVec.ofNat 32 r.val == BitVec.ofNat 32 c.val) = 1#1 := e
        rw [beq_eq_false_iff_ne.mpr hn] at e0
        exact absurd e0 (by decide)
      have e2 := congrArg BitVec.toNat e1
      simp only [BitVec.toNat_ofNat] at e2
      exact h (Fin.ext (by omega))
    rw [Scalar.select_of_ne_one hw]
    simp only [hfi, hfj, hci, hcj, term, if_neg hne, pairOf, scaled_sq]
    rw [← mul_assoc]
    exact congrArg (· * _) (exp2_diag _ _)

/-! The tiles' rows, columns and features are those of the molecule at the tile's offset. -/

/-- An entry of the features of atoms 0 to 127. -/
theorem ft0_apply (f : FVec Ideal S512x64 .f32) (r : Fin 128) (k : Fin 64) : ft0 f (ix2 r k) = f (ix2 (at_ 0 (by decide) r) k) := by
  pointwise [ft0]
  first | rfl | (congr 2; exact Fin.ext (by simp [at_]))

/-- An entry of the coordinates of atoms 0 to 127. -/
theorem ci0_apply (x : FVec Ideal S512x3 .f32) (r : Fin 128) (k : Fin 3) : ci0 x (ix2 r k) = x (ix2 (at_ 0 (by decide) r) k) := by
  pointwise [ci0]
  first | rfl | (congr 2; exact Fin.ext (by simp [at_]))

/-- An entry of the transposed coordinates of atoms 0 to 127. -/
theorem cj0_apply (x : FVec Ideal S3x512 .f32) (r : Fin 128) (k : Fin 3) : cj0 x (ix2 k r) = x (ix2 k (at_ 0 (by decide) r)) := by
  pointwise [cj0]
  first | rfl | (congr 2; exact Fin.ext (by simp [at_]))

/-- An entry of the features of atoms 128 to 255. -/
theorem ft1_apply (f : FVec Ideal S512x64 .f32) (r : Fin 128) (k : Fin 64) : ft1 f (ix2 r k) = f (ix2 (at_ 128 (by decide) r) k) := by
  pointwise [ft1]
  first | rfl | (congr 2; exact Fin.ext (by simp [at_]))

/-- An entry of the coordinates of atoms 128 to 255. -/
theorem ci1_apply (x : FVec Ideal S512x3 .f32) (r : Fin 128) (k : Fin 3) : ci1 x (ix2 r k) = x (ix2 (at_ 128 (by decide) r) k) := by
  pointwise [ci1]
  first | rfl | (congr 2; exact Fin.ext (by simp [at_]))

/-- An entry of the transposed coordinates of atoms 128 to 255. -/
theorem cj1_apply (x : FVec Ideal S3x512 .f32) (r : Fin 128) (k : Fin 3) : cj1 x (ix2 k r) = x (ix2 k (at_ 128 (by decide) r)) := by
  pointwise [cj1]
  first | rfl | (congr 2; exact Fin.ext (by simp [at_]))

/-- An entry of the features of atoms 256 to 383. -/
theorem ft2_apply (f : FVec Ideal S512x64 .f32) (r : Fin 128) (k : Fin 64) : ft2 f (ix2 r k) = f (ix2 (at_ 256 (by decide) r) k) := by
  pointwise [ft2]
  first | rfl | (congr 2; exact Fin.ext (by simp [at_]))

/-- An entry of the coordinates of atoms 256 to 383. -/
theorem ci2_apply (x : FVec Ideal S512x3 .f32) (r : Fin 128) (k : Fin 3) : ci2 x (ix2 r k) = x (ix2 (at_ 256 (by decide) r) k) := by
  pointwise [ci2]
  first | rfl | (congr 2; exact Fin.ext (by simp [at_]))

/-- An entry of the transposed coordinates of atoms 256 to 383. -/
theorem cj2_apply (x : FVec Ideal S3x512 .f32) (r : Fin 128) (k : Fin 3) : cj2 x (ix2 k r) = x (ix2 k (at_ 256 (by decide) r)) := by
  pointwise [cj2]
  first | rfl | (congr 2; exact Fin.ext (by simp [at_]))

/-- An entry of the features of atoms 384 to 511. -/
theorem ft3_apply (f : FVec Ideal S512x64 .f32) (r : Fin 128) (k : Fin 64) : ft3 f (ix2 r k) = f (ix2 (at_ 384 (by decide) r) k) := by
  pointwise [ft3]
  first | rfl | (congr 2; exact Fin.ext (by simp [at_]))

/-- An entry of the coordinates of atoms 384 to 511. -/
theorem ci3_apply (x : FVec Ideal S512x3 .f32) (r : Fin 128) (k : Fin 3) : ci3 x (ix2 r k) = x (ix2 (at_ 384 (by decide) r) k) := by
  pointwise [ci3]
  first | rfl | (congr 2; exact Fin.ext (by simp [at_]))

/-- An entry of the transposed coordinates of atoms 384 to 511. -/
theorem cj3_apply (x : FVec Ideal S3x512 .f32) (r : Fin 128) (k : Fin 3) : cj3 x (ix2 k r) = x (ix2 k (at_ 384 (by decide) r)) := by
  pointwise [cj3]
  first | rfl | (congr 2; exact Fin.ext (by simp [at_]))

/-- The ten tiles added up, at one pair of offsets. -/
theorem tiles_apply (f : FVec Ideal S512x64 .f32) (x : FVec Ideal S512x3 .f32) (y : FVec Ideal S3x512 .f32) (a : Fin 512 → Fin 3 → ℝ)
    (hx : ∀ i d, x (ix2 i d) = (a i d : EReal) * (lg : EReal)) (hy : ∀ i d, y (ix2 d i) = (a i d : EReal) * (lg : EReal)) (r c : Fin 128) :
    tiles f x y (ix2 r c) =
      0
        + half * term (fun i k => f (ix2 i k)) a (at_ 0 (by decide) r) (at_ 0 (by decide) c)
        + term (fun i k => f (ix2 i k)) a (at_ 0 (by decide) r) (at_ 128 (by decide) c)
        + term (fun i k => f (ix2 i k)) a (at_ 0 (by decide) r) (at_ 256 (by decide) c)
        + term (fun i k => f (ix2 i k)) a (at_ 0 (by decide) r) (at_ 384 (by decide) c)
        + half * term (fun i k => f (ix2 i k)) a (at_ 128 (by decide) r) (at_ 128 (by decide) c)
        + term (fun i k => f (ix2 i k)) a (at_ 128 (by decide) r) (at_ 256 (by decide) c)
        + term (fun i k => f (ix2 i k)) a (at_ 128 (by decide) r) (at_ 384 (by decide) c)
        + half * term (fun i k => f (ix2 i k)) a (at_ 256 (by decide) r) (at_ 256 (by decide) c)
        + term (fun i k => f (ix2 i k)) a (at_ 256 (by decide) r) (at_ 384 (by decide) c)
        + half * term (fun i k => f (ix2 i k)) a (at_ 384 (by decide) r) (at_ 384 (by decide) c) := by
  pointwise [tiles]
  rw [
    diag_apply (ft0 f) (ft0 f) (ci0 x) (cj0 y) (fun i k => f (ix2 i k)) a 0 (by decide) (fun _ _ => ft0_apply ..) (fun _ _ => ft0_apply ..)
      (fun _ _ => (ci0_apply ..).trans (hx _ _)) (fun _ _ => (cj0_apply ..).trans (hy _ _)),
    off_apply (ft0 f) (ft1 f) (ci0 x) (cj1 y) (fun i k => f (ix2 i k)) a 0 128 (by decide) (by decide) (by decide) (fun _ _ => ft0_apply ..) (fun _ _ => ft1_apply ..)
      (fun _ _ => (ci0_apply ..).trans (hx _ _)) (fun _ _ => (cj1_apply ..).trans (hy _ _)),
    off_apply (ft0 f) (ft2 f) (ci0 x) (cj2 y) (fun i k => f (ix2 i k)) a 0 256 (by decide) (by decide) (by decide) (fun _ _ => ft0_apply ..) (fun _ _ => ft2_apply ..)
      (fun _ _ => (ci0_apply ..).trans (hx _ _)) (fun _ _ => (cj2_apply ..).trans (hy _ _)),
    off_apply (ft0 f) (ft3 f) (ci0 x) (cj3 y) (fun i k => f (ix2 i k)) a 0 384 (by decide) (by decide) (by decide) (fun _ _ => ft0_apply ..) (fun _ _ => ft3_apply ..)
      (fun _ _ => (ci0_apply ..).trans (hx _ _)) (fun _ _ => (cj3_apply ..).trans (hy _ _)),
    diag_apply (ft1 f) (ft1 f) (ci1 x) (cj1 y) (fun i k => f (ix2 i k)) a 128 (by decide) (fun _ _ => ft1_apply ..) (fun _ _ => ft1_apply ..)
      (fun _ _ => (ci1_apply ..).trans (hx _ _)) (fun _ _ => (cj1_apply ..).trans (hy _ _)),
    off_apply (ft1 f) (ft2 f) (ci1 x) (cj2 y) (fun i k => f (ix2 i k)) a 128 256 (by decide) (by decide) (by decide) (fun _ _ => ft1_apply ..) (fun _ _ => ft2_apply ..)
      (fun _ _ => (ci1_apply ..).trans (hx _ _)) (fun _ _ => (cj2_apply ..).trans (hy _ _)),
    off_apply (ft1 f) (ft3 f) (ci1 x) (cj3 y) (fun i k => f (ix2 i k)) a 128 384 (by decide) (by decide) (by decide) (fun _ _ => ft1_apply ..) (fun _ _ => ft3_apply ..)
      (fun _ _ => (ci1_apply ..).trans (hx _ _)) (fun _ _ => (cj3_apply ..).trans (hy _ _)),
    diag_apply (ft2 f) (ft2 f) (ci2 x) (cj2 y) (fun i k => f (ix2 i k)) a 256 (by decide) (fun _ _ => ft2_apply ..) (fun _ _ => ft2_apply ..)
      (fun _ _ => (ci2_apply ..).trans (hx _ _)) (fun _ _ => (cj2_apply ..).trans (hy _ _)),
    off_apply (ft2 f) (ft3 f) (ci2 x) (cj3 y) (fun i k => f (ix2 i k)) a 256 384 (by decide) (by decide) (by decide) (fun _ _ => ft2_apply ..) (fun _ _ => ft3_apply ..)
      (fun _ _ => (ci2_apply ..).trans (hx _ _)) (fun _ _ => (cj3_apply ..).trans (hy _ _)),
    diag_apply (ft3 f) (ft3 f) (ci3 x) (cj3 y) (fun i k => f (ix2 i k)) a 384 (by decide) (fun _ _ => ft3_apply ..) (fun _ _ => ft3_apply ..)
      (fun _ _ => (ci3_apply ..).trans (hx _ _)) (fun _ _ => (cj3_apply ..).trans (hy _ _))]

/-- A molecule's block holds its energy on every lane. -/
theorem molecule_apply (f : FVec Ideal S512x64 .f32) (x : FVec Ideal S1x512x3 .f32) (a : Fin 512 → Fin 3 → ℝ)
    (ha : ∀ i d, x (ix3 0 i d) = (a i d : EReal)) (l : Fin 128) :
    molecule (F := Ideal) f x (ix3 (0 : Fin 1) (0 : Fin 1) l) = energyOf (fun i k => f (ix2 i k)) a := by
  have hx : ∀ i d, scaled (F := Ideal) x (ix2 i d) = (a i d : EReal) * (lg : EReal) := fun i d => by
    pointwise [scaled]
    rw [log2e_eq, ha]
  have hy : ∀ i d, scaledT (F := Ideal) x (ix2 d i) = (a i d : EReal) * (lg : EReal) := fun i d => by
    pointwise [scaledT, scaled]
    rw [log2e_eq, ha]
  unfold molecule
  pointwise [energy]
  rw [energyOf, half_sum_pairs _ (term_comm _ _)]
  exact Finset.sum_congr rfl fun r _ => Finset.sum_congr rfl fun c _ => tiles_apply f _ _ a hx hy r c

/-- A row of the features, from the encodings and the weights. -/
theorem feats_apply (p : FVec Ideal S32x4096 .f32) (w : FVec Ideal S32x64 .f32) (i : Fin 4096) (n : Fin 64) :
    feats p w (ix2 i n) = ∑ k, p (ix2 k i) * w (ix2 k n) := by
  pointwise [feats]

end Cert.KernelIdeal.Read

end
-- ==== Proof.KernelRun.lean ====
/-
  The kernel's run on the extended reals: when every coordinate is a real number, the result at molecule `b` is
  `energyOf` of that molecule's feature rows and coordinates.
-/
module

public import proofs.«01_k».proof.Defs
public import proofs.«01_k».proof.Proof.Gen.KernelIdeal.Frame
public import proofs.«01_k».proof.Proof.KernelRead
public import Idealize.ShloMosaic.Lib.Pipeline.Value
public import Idealize.ShloMosaic.Lib.Pipeline.ValueKit
public import Idealize.ShloMosaic.Lib.Pointwise

@[expose] public section

noncomputable section

namespace Cert.KernelIdeal.Launch

open Idealize.ShloMosaic Idealize.ShloMosaic.TcCoe Idealize.SL.Sem
open Idealize.ShloMosaic.Pointwise
open Idealize.ShloMosaic.Pipeline (Dat)
open Cert.KernelIdeal Cert.KernelIdeal.Gen Cert.KernelIdeal.Tiles Cert.KernelIdeal.Read Cert.Energy

variable (m : (ℓ : Loc nD τ sig) → Buf (Elt Ideal) ℓ) (ρ : Dev nD → PrngReg)

/-- Row `i` of molecule `b`'s features: column `512 b + i` of the encodings, times the weights. -/
def feat (p : S32x8192.Idx → EReal) (w : S32x64.Idx → EReal) (b : Fin 16) (i : Fin 512) (n : Fin 64) : EReal :=
  ∑ k : Fin 32, p (ix2 k ⟨512 * b.val + i.val, by omega⟩) * w (ix2 k n)

theorem index0 : ∀ t : Fin cfg0.N, win0_0.index t = ![0, t.val] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0, 0] := (by decide +kernel : ∀ t : Fin grid0.N, _)

/-- The molecule that slot `q` of grid point `t` holds. -/
def mol (t : Fin cfg0.N) (q : Fin 8) : Fin 16 := ⟨8 * t.val + q.val, by have : t.val < 2 := t.isLt; omega⟩

/-- The block of encodings at point `t`, read at coordinates. -/
theorem enc_apply (c : Dev nD) (t : Fin cfg0.N) (q : Fin 8) (k : Fin 32) (i : Fin 512) :
    (View.ld (iblk m c 0 t) r0_0 : S32x4096.Idx → EReal) (ix2 k ⟨512 * q.val + i.val, by omega⟩)
      = m ((c : Thread nD τ).loc main_arg0) (ix2 k ⟨512 * (mol t q).val + i.val, by omega⟩) := by
  have hz : (![0, 0] : Fin 2 → Nat) = fun _ => 0 := funext fun a => by fin_cases a <;> rfl
  refine (congrFun (View.ld_unit_zero (X := (iblk m c 0 t : S32x4096.Idx → Elt Ideal .f32)) (inb := inb_S32x4096_S32x4096_0_0) hz) _).trans ?_
  blk_simp [iblk]
  unfold mol
  blk_ext [index0]

/-- The weights at point `t`, read at coordinates. -/
theorem wts_apply (c : Dev nD) (t : Fin cfg0.N) (k : Fin 32) (n : Fin 64) :
    (View.ld (iblk m c 2 t) r0_1 : S32x64.Idx → EReal) (ix2 k n)
      = m ((c : Thread nD τ).loc main_arg3) (ix2 k n) := by
  have hz : (![0, 0] : Fin 2 → Nat) = fun _ => 0 := funext fun a => by fin_cases a <;> rfl
  refine (congrFun (View.ld_unit_zero (X := (iblk m c 2 t : S32x64.Idx → Elt Ideal .f32)) (inb := inb_S32x64_S32x64_0_0) hz) _).trans ?_
  blk_simp [iblk]
  blk_ext [index2]

/-- A load of slot `q`'s coordinates, read at coordinates. -/
theorem ld_slot {e : EltTy} (x : S8x512x3.Idx → Elt Ideal e) (q : Fin 8) (h) (i : Fin 512) (d : Fin 3) :
    View.ld x (Rect.unit (s := S8x512x3) ![q.val, 0, 0] S1x512x3.size h) (ix3 0 i d) = x (ix3 q i d) := by
  show x ((Rect.unit (s := S8x512x3) ![q.val, 0, 0] S1x512x3.size h).idx (ix3 0 i d)) = _
  congr 1
  funext a
  apply Fin.ext
  match a with
  | ⟨0, _⟩ => show q.val + 1 * 0 = q.val; omega
  | ⟨1, _⟩ => show 0 + 1 * i.val = i.val; omega
  | ⟨2, _⟩ => show 0 + 1 * d.val = d.val; omega

/-- The coordinates of slot `q` at point `t`, read at coordinates. -/
theorem pos_apply (c : Dev nD) (t : Fin cfg0.N) (q : Fin 8) (h) (i : Fin 512) (d : Fin 3) :
    View.ld (iblk m c 1 t : S8x512x3.Idx → Elt Ideal .f32) (Rect.unit (s := S8x512x3) ![q.val, 0, 0] S1x512x3.size h) (ix3 0 i d)
      = m ((c : Thread nD τ).loc main_arg2) (ix3 (mol t q) i d) := by
  rw [ld_slot]
  blk_simp [iblk]
  unfold mol
  blk_ext [index1]

/-- What the body stores in slot `q` at point `t`: that molecule's energy. -/
theorem slot_apply (c : Dev nD) (a : Fin 16 → Fin 512 → Fin 3 → ℝ)
    (ha : ∀ b i d, m ((c : Thread nD τ).loc main_arg2) (ix3 b i d) = (a b i d : EReal))
    (t : Fin cfg0.N) (q : Fin 8) (hs) (h) (l : Fin 128) :
    molecule (F := Ideal) (extractStridedSlice S512x64 ![512 * q.val, 0] (feats (View.ld (iblk m c 0 t) r0_0) (View.ld (iblk m c 2 t) r0_1)) hs)
        (View.ld (iblk m c 1 t) (Rect.unit (s := S8x512x3) ![q.val, 0, 0] S1x512x3.size h)) (ix3 0 0 l)
      = energyOf (feat (m ((c : Thread nD τ).loc main_arg0)) (m ((c : Thread nD τ).loc main_arg3)) (mol t q)) (a (mol t q)) := by
  refine (molecule_apply _ _ (a (mol t q)) (fun i d => (pos_apply m c t q h i d).trans (ha _ i d)) l).trans ?_
  refine congrArg (fun f => energyOf f (a (mol t q))) (funext fun i => funext fun n => ?_)
  have e : extractStridedSlice S512x64 ![512 * q.val, 0] (feats (F := Ideal) (View.ld (iblk m c 0 t) r0_0) (View.ld (iblk m c 2 t) r0_1)) hs (ix2 i n)
      = feats (F := Ideal) (View.ld (iblk m c 0 t) r0_0) (View.ld (iblk m c 2 t) r0_1) (ix2 ⟨512 * q.val + i.val, by omega⟩ n) := by
    pointwise
  rw [e, feats_apply]
  exact Finset.sum_congr rfl fun k _ => congrArg₂ (· * ·) (enc_apply m c t q k i) (wts_apply m c t k n)

/-- The energies array after the run. -/
theorem final (c : Dev nD) (a : Fin 16 → Fin 512 → Fin 3 → ℝ)
    (ha : ∀ b i d, m ((c : Thread nD τ).loc main_arg2) (ix3 b i d) = (a b i d : EReal)) :
    (dats m 0 c).arrAt 3 cfg0.N = fun i : S16x1x128.Idx =>
      energyOf (feat (m ((c : Thread nD τ).loc main_arg0)) (m ((c : Thread nD τ).loc main_arg3)) (i 0)) (a (i 0)) := by
  refine (dats m 0 c).arrAt_eq_of_covers 3 _ (by decide +kernel) fun t hf y => ?_
  blk_simp
  rw [after0_3, Tiles.out_eq]
  have hy : ∀ (x : S1x1x128.Idx), ∃ l : Fin 128, x = ix3 0 0 l := fun x =>
    ⟨x 2, funext fun k => by
      match k with
      | ⟨0, _⟩ => exact Subsingleton.elim (α := Fin 1) _ _
      | ⟨1, _⟩ => exact Subsingleton.elim (α := Fin 1) _ _
      | ⟨2, _⟩ => rfl⟩
  have hq : ∀ q : Fin 8, (y 0 : ℕ) = q.val → ((win0_3.blk t).view.emb y) 0 = mol t q := fun q h => by
    apply Fin.ext
    show _ = 8 * t.val + q.val
    blk_simp [index3]
    omega
  canon_tiles x h
  · obtain ⟨l, rfl⟩ := hy x
    rw [hq 7 (by show (y 0 : ℕ) = 7; omega)]
    exact slot_apply m c a ha t 7 _ _ l
  · obtain ⟨l, rfl⟩ := hy x
    rw [hq 6 (by show (y 0 : ℕ) = 6; omega)]
    exact slot_apply m c a ha t 6 _ _ l
  · obtain ⟨l, rfl⟩ := hy x
    rw [hq 5 (by show (y 0 : ℕ) = 5; omega)]
    exact slot_apply m c a ha t 5 _ _ l
  · obtain ⟨l, rfl⟩ := hy x
    rw [hq 4 (by show (y 0 : ℕ) = 4; omega)]
    exact slot_apply m c a ha t 4 _ _ l
  · obtain ⟨l, rfl⟩ := hy x
    rw [hq 3 (by show (y 0 : ℕ) = 3; omega)]
    exact slot_apply m c a ha t 3 _ _ l
  · obtain ⟨l, rfl⟩ := hy x
    rw [hq 2 (by show (y 0 : ℕ) = 2; omega)]
    exact slot_apply m c a ha t 2 _ _ l
  · obtain ⟨l, rfl⟩ := hy x
    rw [hq 1 (by show (y 0 : ℕ) = 1; omega)]
    exact slot_apply m c a ha t 1 _ _ l
  · obtain ⟨l, rfl⟩ := hy x
    rw [hq 0 (by show (y 0 : ℕ) = 0; omega)]
    exact slot_apply m c a ha t 0 _ _ l

/-- Slicing out lane 0 and dropping the unit axes, at an index. -/
theorem lane0_apply (x : S16x1x128.Idx → Elt Ideal .f32) (b : Fin 16) :
    shapeCast S16 (extractStridedSlice S16x1x1 ![0, 0, 0] x slices_S16x1x128_S16x1x1_0_0_0) shapeCasts_S16x1x1_S16 (ix1 b)
      = x (ix3 b (0 : Fin 1) (0 : Fin 128)) := by
  pointwise

/-- The result buffer after the host lines: lane 0 of each molecule's energies. -/
theorem tail_eq (c : Dev nD) (b : Fin 16) : Pipeline.afterTail₀ cfgs (dats m) 0 (V0 m) [hostOps1] c main_v2 (ix1 b)
    = (dats m 0 c).arrAt 3 cfg0.N (ix3 b (0 : Fin 1) (0 : Fin 128)) := by
  unfold Pipeline.afterTail₀ hostOps1
  simp only [List.flatten_cons, List.flatten_nil, List.append_nil]
  after_region_results
  exact (lane0_apply _ b).trans (congrFun (Pipeline.withArrays_arr (cfgs 0).spec launch0.win.arr_inj c (V0 m c) _ 3) _)

/-- The kernel's run: with real coordinates, each result is that molecule's energy, and the arguments stay. -/
theorem run (a : Dev nD → Fin 16 → Fin 512 → Fin 3 → ℝ)
    (ha : ∀ c b i d, m (((c : Dev nD) : Thread nD τ).loc main_arg2) (ix3 b i d) = (a c b i d : EReal)) :
    θ_run defs (onTc (τ := τ) (main (F := Ideal))) ⟨m, fun _ => 0, ρ⟩ fun r => ∀ c : Dev nD,
      (∀ b : Fin 16, r.2.mem ((c : Thread nD τ).loc main_v2) (ix1 b)
        = energyOf (feat (m ((c : Thread nD τ).loc main_arg0)) (m ((c : Thread nD τ).loc main_arg3)) b) (a c b))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨fun b => by
      rw [h.rest_eq c main_v2 (by decide), tail_eq m c b, final m c (a c) (ha c)]; rfl,
    h.in_eq c 0 rfl, (h.rest_eq c main_arg1 (by decide)).trans (W_main_arg1 m (dats m) c), h.in_eq c 1 rfl, h.in_eq c 2 rfl⟩)
    (run_main m ρ)

end Cert.KernelIdeal.Launch

end
-- ==== Proof.RefTerm.lean ====
/- The reference's result as a few functions of its arguments, for any float values: the order of a molecule's atoms,
   what is taken along it, the overlaps of the pairs and the sum. -/
module

public import proofs.«01_k».proof.Proof.Gen.ReferenceIdeal.Run
public import Idealize.ShloMosaic.Lib.Pipeline.ValueKit

@[expose] public section

set_option maxRecDepth 16384

noncomputable section

namespace Cert.ReferenceIdeal.Terms

open Idealize.ShloMosaic Idealize.SL.Sem Cert.ReferenceIdeal Cert.ReferenceIdeal.Gen
open Idealize.ShloMosaic.TcCoe
open Facts

variable {F : FTy → Type} [FloatOps F]

/-- The order of each molecule's atoms: by species, the greatest first, ties in place. -/
def order (sp : IVec S16x512 32) : IVec S16x512 32 :=
  (Host.sort2 S16x512 1 comparator_i32_i32_d1 (negi sp) (iotaInDim S16x512 32 1)).2

/-- The order as start indices for the coordinates, a negative one counted from the end. -/
def idxC (o : IVec S16x512 32) : IVec S16x512x1 32 :=
  let o3 := broadcastInDim S16x512x1 ![0, 1] bcast_S16x512_S16x512x1_0_1 o
  select (cmpi .slt o3 (broadcastInDim S16x512x1 ![] bcast_S_S16x512x1 (constantI S_ 32 0#32)))
    (addi o3 (broadcastInDim S16x512x1 ![] bcast_S_S16x512x1 (constantI S_ 32 512#32))) o3

/-- The order as start indices for the species, a negative one counted from the end. -/
def idxS (o : IVec S16x512 32) : IVec S16x512x1 32 :=
  shapeCast _ (select (cmpi .slt o (broadcastInDim S16x512 ![] bcast_S_S16x512 (constantI S_ 32 0#32)))
    (addi o (broadcastInDim S16x512 ![] bcast_S_S16x512 (constantI S_ 32 512#32))) o) shapeCasts_S16x512_S16x512x1

/-- Whether a start index is one of 0 … 511. -/
def inside (i : IVec S16x512x1 32) : IVec S16x512 1 :=
  Host.reduce IntOp.andi (andi (cmpi .sge i (broadcastInDim S16x512x1 ![] bcast_S_S16x512x1 (constantI S_ 32 0#32)))
      (cmpi .sle i (broadcastInDim S16x512x1 ![0, 1, 2] bcast_S1x1x1_S16x512x1_0_1_2
        (broadcastInDim S1x1x1 ![2] bcast_S1_S1x1x1_2 (constantI S1 32 511#32)))))
    (constantI S_ 1 1#1) reducesTo_S16x512x1_S16x512_d2 h_S_

/-- The species along the order. -/
def takeS (sp o : IVec S16x512 32) : IVec S16x512 32 :=
  select (inside (idxS o)) (Host.gather gather_S16x512_S16x512x1_S16x512_n_1_0_0_1_2_11 sp (idxS o))
    (broadcastInDim S16x512 ![] bcast_S_S16x512 (constantI S_ 32 2147483648#32))

/-- The coordinates along the order. -/
def takeC (x : FVec F S16x512x3 .f32) (o : IVec S16x512 32) : FVec F S16x512x3 .f32 :=
  select (broadcastInDim S16x512x3 ![0, 1] bcast_S16x512_S16x512x3_0_1 (inside (idxC o)))
    (Host.gather gather_S16x512x3_S16x512x1_S16x512x3_2_1_0_0_1_2_113 x (idxC o))
    (broadcastInDim S16x512x3 ![] bcast_S_S16x512x3 (constant S_ .f32 0x7FC00000#32))

/-- The order over the atoms of all molecules, one after another. -/
def flat (o : IVec S16x512 32) : IVec S8192 32 :=
  shapeCast _ (addi o (broadcastInDim S16x512 ![0, 1] bcast_S16x1_S16x512_0_1 (broadcastInDim S16x1 ![0] bcast_S16_S16x1_0
    (muli (iotaInDim S16 32 0) (broadcastInDim S16 ![] bcast_S_S16 (constantI S_ 32 512#32)))))) shapeCasts_S16x512_S8192

/-- It as start indices for the encodings, a negative one counted from the end. -/
def idxP (f : IVec S8192 32) : IVec S8192x1 32 :=
  broadcastInDim S8192x1 ![0] bcast_S8192_S8192x1_0
    (select (cmpi .slt f (broadcastInDim S8192 ![] bcast_S_S8192 (constantI S_ 32 0#32)))
      (addi f (broadcastInDim S8192 ![] bcast_S_S8192 (constantI S_ 32 8192#32))) f)

/-- Whether such an index is one of 0 … 8191. -/
def insideP (i : IVec S8192x1 32) : IVec S8192 1 :=
  Host.reduce IntOp.andi (andi (cmpi .sge i (broadcastInDim S8192x1 ![] bcast_S_S8192x1 (constantI S_ 32 0#32)))
      (cmpi .sle i (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The encodings along the order. -/
def takeP (p : FVec F S32x8192 .f32) (o : IVec S16x512 32) : FVec F S32x8192 .f32 :=
  select (broadcastInDim S32x8192 ![1] bcast_S8192_S32x8192_1 (insideP (idxP (flat o))))
    (Host.gather gather_S32x8192_S8192x1_S32x8192_0_1_n_n_1_1_321 p (idxP (flat o)))
    (broadcastInDim S32x8192 ![] bcast_S_S32x8192 (constant S_ .f32 0x7FC00000#32))

/-- The atoms' features, from the taken encodings. -/
def features (p : FVec F S32x8192 .f32) (w : FVec F S32x64 .f32) : FVec F S16x512x64 .f32 :=
  shapeCast _ (Host.dotGeneral dot_S8192x32_S32x64_S8192x64_1_0_0_1_n_n none
    (transpose S8192x32 [1, 0] p transposes_S32x8192_S8192x32_1_0) w) shapeCasts_S8192x64_S16x512x64

/-- The differences of the coordinates of each pair of atoms. -/
def delta (x : FVec F S16x512x3 .f32) : FVec F S16x512x512x3 .f32 :=
  subf (broadcastInDim S16x512x512x3 ![0, 1, 2, 3] bcast_S16x512x1x3_S16x512x512x3_0_1_2_3
      (broadcastInDim S16x512x1x3 ![0, 1, 3] bcast_S16x512x3_S16x512x1x3_0_1_3 x))
    (broadcastInDim S16x512x512x3 ![0, 1, 2, 3] bcast_S16x1x512x3_S16x512x512x3_0_1_2_3
      (broadcastInDim S16x1x512x3 ![0, 2, 3] bcast_S16x512x3_S16x1x512x3_0_2_3 x))

/-- The overlaps of the pairs, from the differences. -/
def overlap (d : FVec F S16x512x512x3 .f32) : FVec F S16x512x512 .f32 :=
  Host.exp (Host.negf (Host.sqrt (addf
    (Host.reduceAdd (mulf d d) (constant S_ .f32 0x00000000#32) reducesTo_S16x512x512x3_S16x512x512_d3 h_S_)
    (broadcastInDim S16x512x512 ![] bcast_S_S16x512x512
      (Host.divf (constant S_ .f32 0x3F800000#32) (constant S_ .f32 0x4E6E6B28#32))))))

/-- One less the identity matrix. -/
def offDiag : FVec F S16x512x512 .f32 :=
  broadcastInDim S16x512x512 ![0, 1, 2] bcast_S1x512x512_S16x512x512_0_1_2
    (broadcastInDim S1x512x512 ![1, 2] bcast_S512x512_S1x512x512_1_2
      (subf (broadcastInDim S512x512 ![] bcast_S_S512x512 (constant S_ .f32 0x3F800000#32))
        (uitofp .f32 (cmpi .eq (addi (iotaInDim S512x512 32 0) (broadcastInDim S512x512 ![] bcast_S_S512x512 (constantI S_ 32 0#32)))
          (iotaInDim S512x512 32 1)))))

/-- One where an atom's species is positive. -/
def present (z : IVec S16x512 32) : FVec F S16x512 .f32 :=
  uitofp .f32 (cmpi .sgt z (broadcastInDim S16x512 ![] bcast_S_S16x512 (constantI S_ 32 0#32)))

/-- One where both atoms of a pair are there. -/
def both (z : FVec F S16x512 .f32) : FVec F S16x512x512 .f32 :=
  mulf (broadcastInDim S16x512x512 ![0, 1, 2] bcast_S16x512x1_S16x512x512_0_1_2
      (broadcastInDim S16x512x1 ![0, 1] bcast_S16x512_S16x512x1_0_1 z))
    (broadcastInDim S16x512x512 ![0, 1, 2] bcast_S16x1x512_S16x512x512_0_1_2
      (broadcastInDim S16x1x512 ![0, 2] bcast_S16x512_S16x1x512_0_2 z))

/-- What each pair contributes. -/
def pairTerms (z : FVec F S16x512 .f32) (x : FVec F S16x512x3 .f32) (f : FVec F S16x512x64 .f32) : FVec F S16x512x512 .f32 :=
  mulf (mulf (mulf (overlap (delta x)) offDiag)
    (Host.dotGeneral dot_S16x512x64_S16x512x64_S16x512x512_2_2_1_1_0_0 none f f)) (both z)

/-- Half the sum over the pairs. -/
def halfSum (y : FVec F S16x512x512 .f32) : FVec F S16 .f32 :=
  mulf (broadcastInDim S16 ![] bcast_S_S16 (constant S_ .f32 0x3F000000#32))
    (Host.reduceAdd y (constant S_ .f32 0x00000000#32) reducesTo_S16x512x512_S16_d1_2 h_S_)

set_option maxHeartbeats 4000000 in
/-- The reference's result in these functions. -/
theorem res_eq (m : (ℓ : Loc nD τ sig) → Buf (Elt F) ℓ) (c : Dev nD) :
    Value.res_main_v53 m c = halfSum (pairTerms
      (present (takeS (m ((c.tc : Thread nD τ).loc main_arg1)) (order (m ((c.tc : Thread nD τ).loc main_arg1)))))
      (takeC (m ((c.tc : Thread nD τ).loc main_arg2)) (order (m ((c.tc : Thread nD τ).loc main_arg1))))
      (features (takeP (m ((c.tc : Thread nD τ).loc main_arg0)) (order (m ((c.tc : Thread nD τ).loc main_arg1))))
        (m ((c.tc : Thread nD τ).loc main_arg3)))) := by
  unfold Value.res_main_v53 halfSum pairTerms present takeS takeC features takeP
  chain_rfl

end Cert.ReferenceIdeal.Terms

end
-- ==== Proof.RefOrder.lean ====
/- What the reference takes along its order, at exact values: the order of a molecule's atoms is a permutation of them,
   so every start index is in range and every taken row is the row of the atom the permutation names. -/
module

public import proofs.«01_k».proof.Proof.RefTerm
public import Idealize.ShloMosaic.Lib.Pointwise
public import Idealize.ShloMosaic.Lib.SortFacts
public import Idealize.ShloMosaic.Lib.ReduceAll

@[expose] public section

set_option maxRecDepth 16384

noncomputable section

namespace Cert.ReferenceIdeal.Order

open Idealize.ShloMosaic Idealize.ShloMosaic.Pointwise Idealize.SL.Sem Cert.ReferenceIdeal Cert.ReferenceIdeal.Gen Cert.ReferenceIdeal.Terms
open Facts

/-- The atom at each place of molecule `b`'s order. -/
def perm (sp : IVec S16x512 32) (b : Fin 16) : Fin 512 → Fin 512 :=
  sortedFrom (n := 512) (fun k k' : Fin 512 =>
    comparator_i32_i32_d1 (negi sp (ix2 b k), iotaInDim S16x512 32 1 (ix2 b k))
      (negi sp (ix2 b k'), iotaInDim S16x512 32 1 (ix2 b k')) == 1#1)

/-- It is a permutation. -/
theorem perm_bijective (sp : IVec S16x512 32) (b : Fin 16) : Function.Bijective (perm sp b) :=
  ⟨sortedFrom_injective _, sortedFrom_surjective _⟩

/-- A sort of two matrices along their rows: the second's entries at the sorted places. -/
theorem sort_apply (cmp : BitVec 32 × BitVec 32 → BitVec 32 × BitVec 32 → BitVec 1) (x y : IVec S16x512 32) (b : Fin 16) (k : Fin 512) :
    (Host.sort2 S16x512 1 cmp x y).2 (ix2 b k)
      = y (ix2 b (sortedFrom (n := 512) (fun i j : Fin 512 => cmp (x (ix2 b i), y (ix2 b i)) (x (ix2 b j), y (ix2 b j)) == 1#1) k)) := by
  have hd : 1 < S16x512.rank := Nat.lt_succ_self 1
  have e : ∀ c : Fin 512, (ix2 b k : S16x512.Idx).along (⟨1, hd⟩ : Fin S16x512.rank) c = ix2 b c := fun c => by
    funext a
    match a with
    | ⟨0, _⟩ => rfl
    | ⟨1, _⟩ => rfl
  have hbefore : (fun i j : Fin 512 => cmp (x ((ix2 b k : S16x512.Idx).along (⟨1, hd⟩ : Fin S16x512.rank) i), y ((ix2 b k : S16x512.Idx).along (⟨1, hd⟩ : Fin S16x512.rank) i))
      (x ((ix2 b k : S16x512.Idx).along (⟨1, hd⟩ : Fin S16x512.rank) j), y ((ix2 b k : S16x512.Idx).along (⟨1, hd⟩ : Fin S16x512.rank) j)) == 1#1)
        = fun i j => cmp (x (ix2 b i), y (ix2 b i)) (x (ix2 b j), y (ix2 b j)) == 1#1 := by
    funext i j
    rw [e i, e j]
  unfold Host.sort2
  rw [dif_pos hd]
  exact (congrArg (fun before : Fin 512 → Fin 512 → Bool => y ((ix2 b k : S16x512.Idx).along (⟨1, hd⟩ : Fin S16x512.rank) (sortedFrom before k))) hbefore).trans
    (congrArg y (e _))

/-- The order's words. -/
theorem order_apply (sp : IVec S16x512 32) (b : Fin 16) (k : Fin 512) :
    order sp (ix2 b k) = BitVec.ofNat 32 (perm sp b k).val :=
  (sort_apply _ _ _ b k).trans rfl

/-! ## Words below 2^31 -/

/-- A small word is not negative. -/
theorem slt_zero {n : ℕ} (h : n < 2 ^ 31) : IntOp.cmpi .slt (BitVec.ofNat 32 n) 0#32 = 0#1 := by
  have : (BitVec.ofNat 32 n).slt 0#32 = false := by
    rw [BitVec.slt_eq_decide, BitVec.toInt_eq_toNat_of_lt (by rw [BitVec.toNat_ofNat]; omega)]
    simp; omega
  show BitVec.ofBool ((BitVec.ofNat 32 n).slt 0#32) = 0#1
  rw [this]; rfl

/-- A small word is at least zero. -/
theorem sge_zero {n : ℕ} (h : n < 2 ^ 31) : IntOp.cmpi .sge (BitVec.ofNat 32 n) 0#32 = 1#1 := by
  have : (0#32).sle (BitVec.ofNat 32 n) = true := by
    rw [BitVec.sle_eq_decide, BitVec.toInt_eq_toNat_of_lt (x := BitVec.ofNat 32 n) (by rw [BitVec.toNat_ofNat]; omega)]
    simp; omega
  show BitVec.ofBool ((0#32).sle (BitVec.ofNat 32 n)) = 1#1
  rw [this]; rfl

/-- Small words compare as their numbers. -/
theorem sle_of_le {n k : ℕ} (hk : k < 2 ^ 31) (h : n ≤ k) : IntOp.cmpi .sle (BitVec.ofNat 32 n) (BitVec.ofNat 32 k) = 1#1 := by
  have : (BitVec.ofNat 32 n).sle (BitVec.ofNat 32 k) = true := by
    rw [BitVec.sle_eq_decide, BitVec.toInt_eq_toNat_of_lt (x := BitVec.ofNat 32 n) (by rw [BitVec.toNat_ofNat]; omega),
      BitVec.toInt_eq_toNat_of_lt (x := BitVec.ofNat 32 k) (by rw [BitVec.toNat_ofNat]; omega), BitVec.toNat_ofNat, BitVec.toNat_ofNat,
      Nat.mod_eq_of_lt (by omega), Nat.mod_eq_of_lt (by omega)]
    simp; omega
  show BitVec.ofBool ((BitVec.ofNat 32 n).sle (BitVec.ofNat 32 k)) = 1#1
  rw [this]; rfl

/-- A small word read as a signed number. -/
theorem toInt_small {n : ℕ} (h : n < 2 ^ 31) : (BitVec.ofNat 32 n).toInt.toNat = n := by
  rw [BitVec.toInt_eq_toNat_of_lt (by rw [BitVec.toNat_ofNat]; omega), BitVec.toNat_ofNat, Int.toNat_natCast]
  exact Nat.mod_eq_of_lt (by omega)

/-! ## The start indices -/

variable (sp : IVec S16x512 32)

theorem idxC_apply (b : Fin 16) (k : Fin 512) (e : Fin 1) :
    idxC (order sp) (ix3 b k e) = BitVec.ofNat 32 (perm sp b k).val := by
  pointwise [idxC]
  rw [order_apply]
  exact Scalar.select_of_ne_one (by rw [slt_zero (by omega)]; decide) _ _

theorem idxS_apply (b : Fin 16) (k : Fin 512) (e : Fin 1) :
    idxS (order sp) (ix3 b k e) = BitVec.ofNat 32 (perm sp b k).val := by
  pointwise [idxS]
  rw [order_apply]
  exact Scalar.select_of_ne_one (by rw [slt_zero (by omega)]; decide) _ _

theorem flat_apply (b : Fin 16) (k : Fin 512) :
    flat (order sp) (ix1 ⟨512 * b.val + k.val, by omega⟩) = BitVec.ofNat 32 (512 * b.val + (perm sp b k).val) := by
  pointwise [flat]
  rw [order_apply, show 512 * b.val + (perm sp b k).val = (perm sp b k).val + b.val * 512 by omega, BitVec.ofNat_add, BitVec.ofNat_mul]
  rfl

theorem idxP_apply (b : Fin 16) (k : Fin 512) (e : Fin 1) :
    idxP (flat (order sp)) (ix2 ⟨512 * b.val + k.val, by omega⟩ e) = BitVec.ofNat 32 (512 * b.val + (perm sp b k).val) := by
  pointwise [idxP]
  rw [flat_apply]
  exact Scalar.select_of_ne_one (by rw [slt_zero (by omega)]; decide) _ _

/-! ## Every start index is in range -/

/-- A molecule and a place in it, from a place among all. -/
theorem split (j : Fin 8192) : ∃ (b : Fin 16) (k : Fin 512), j = ⟨512 * b.val + k.val, by omega⟩ :=
  ⟨⟨j.val / 512, by omega⟩, ⟨j.val % 512, by omega⟩, Fin.ext (by show j.val = 512 * (j.val / 512) + j.val % 512; omega)⟩

theorem inside_apply (i : IVec S16x512x1 32) (h : ∀ b k e, ∃ n : Fin 512, i (ix3 b k e) = BitVec.ofNat 32 n.val) (j : S16x512.Idx) :
    inside i j = 1#1 := by
  unfold inside
  refine Host.reduce_andi_one _ _ _ _ _ rfl fun y => ?_
  obtain ⟨b, k, e, rfl⟩ : ∃ (b : Fin 16) (k : Fin 512) (e : Fin 1), y = ix3 b k e := ⟨y 0, y 1, y 2, by
    funext a
    match a with
    | ⟨0, _⟩ => rfl
    | ⟨1, _⟩ => rfl
    | ⟨2, _⟩ => rfl⟩
  obtain ⟨n, hn⟩ := h b k e
  pointwise
  rw [hn, sge_zero (by omega), sle_of_le (k := 511) (by decide) (by omega)]
  rfl

theorem insideP_apply (i : IVec S8192x1 32) (h : ∀ k e, ∃ n : Fin 8192, i (ix2 k e) = BitVec.ofNat 32 n.val) (j : S8192.Idx) :
    insideP i j = 1#1 := by
  unfold insideP
  refine Host.reduce_andi_one _ _ _ _ _ rfl fun y => ?_
  obtain ⟨k, e, rfl⟩ : ∃ (k : Fin 8192) (e : Fin 1), y = ix2 k e := ⟨y 0, y 1, by
    funext a
    match a with
    | ⟨0, _⟩ => rfl
    | ⟨1, _⟩ => rfl⟩
  obtain ⟨n, hn⟩ := h k e
  pointwise
  rw [hn, sge_zero (by omega), sle_of_le (k := 8191) (by decide) (by omega)]
  rfl

/-! ## What the gathers read -/

theorem gatherS_apply (x : IVec S16x512 32) (idx : IVec S16x512x1 32) (b : Fin 16) (k i : Fin 512)
    (h : idx (ix3 b k (0 : Fin 1)) = BitVec.ofNat 32 i.val) :
    Host.gather gather_S16x512_S16x512x1_S16x512_n_1_0_0_1_2_11 x idx (ix2 b k) = x (ix2 b i) := by
  unfold Host.gather
  refine congrArg x (funext fun a => Fin.ext ?_)
  let d := gather_S16x512_S16x512x1_S16x512_n_1_0_0_1_2_11
  have hs : ∀ e, d.siIdx (ix2 b k) e = ix3 b k (0 : Fin 1) := fun e => by
    funext a
    refine Fin.ext ?_
    match a with
    | ⟨0, _⟩ => rfl
    | ⟨1, _⟩ => rfl
    | ⟨2, _⟩ => exact Nat.lt_one_iff.mp e.isLt
  match a with
  | ⟨0, _⟩ =>
    show d.start (ix2 b k) idx 0 + d.batchCoord (ix2 b k) 0 + d.offCoord (ix2 b k) 0 = b.val
    have h0 : d.start (ix2 b k) idx 0 = 0 := rfl
    have h1 : d.batchCoord (ix2 b k) 0 = b.val := rfl
    have h2 : d.offCoord (ix2 b k) 0 = 0 := rfl
    omega
  | ⟨1, _⟩ =>
    show d.start (ix2 b k) idx 1 + d.batchCoord (ix2 b k) 1 + d.offCoord (ix2 b k) 1 = i.val
    have h1 : d.start (ix2 b k) idx 1 = i.val := by
      unfold GatherDims.start
      rw [dif_pos (show (1 : Fin 2) ∈ d.startIndexMap from List.mem_singleton.mpr rfl), hs, h, toInt_small (by omega)]
      exact Nat.min_eq_left (by show i.val ≤ 511; omega)
    rw [h1]
    rfl

theorem gatherC_apply {α : Type} (x : S16x512x3.Idx → α) (idx : IVec S16x512x1 32) (b : Fin 16) (k i : Fin 512) (e : Fin 3)
    (h : idx (ix3 b k (0 : Fin 1)) = BitVec.ofNat 32 i.val) :
    Host.gather gather_S16x512x3_S16x512x1_S16x512x3_2_1_0_0_1_2_113 x idx (ix3 b k e) = x (ix3 b i e) := by
  unfold Host.gather
  refine congrArg x (funext fun a => Fin.ext ?_)
  let d := gather_S16x512x3_S16x512x1_S16x512x3_2_1_0_0_1_2_113
  have hs : ∀ c, d.siIdx (ix3 b k e) c = ix3 b k (0 : Fin 1) := fun c => by
    funext a
    refine Fin.ext ?_
    match a with
    | ⟨0, _⟩ => rfl
    | ⟨1, _⟩ => rfl
    | ⟨2, _⟩ => exact Nat.lt_one_iff.mp c.isLt
  match a with
  | ⟨0, _⟩ =>
    show d.start (ix3 b k e) idx 0 + d.batchCoord (ix3 b k e) 0 + d.offCoord (ix3 b k e) 0 = b.val
    have h0 : d.start (ix3 b k e) idx 0 = 0 := rfl
    have h1 : d.batchCoord (ix3 b k e) 0 = b.val := rfl
    have h2 : d.offCoord (ix3 b k e) 0 = 0 := rfl
    omega
  | ⟨1, _⟩ =>
    show d.start (ix3 b k e) idx 1 + d.batchCoord (ix3 b k e) 1 + d.offCoord (ix3 b k e) 1 = i.val
    have h1 : d.start (ix3 b k e) idx 1 = i.val := by
      unfold GatherDims.start
      rw [dif_pos (show (1 : Fin 3) ∈ d.startIndexMap from List.mem_singleton.mpr rfl), hs, h, toInt_small (by omega)]
      exact Nat.min_eq_left (by show i.val ≤ 511; omega)
    rw [h1]
    rfl
  | ⟨2, _⟩ =>
    show d.start (ix3 b k e) idx 2 + d.batchCoord (ix3 b k e) 2 + d.offCoord (ix3 b k e) 2 = e.val
    have h0 : d.start (ix3 b k e) idx 2 = 0 := rfl
    have h1 : d.batchCoord (ix3 b k e) 2 = 0 := rfl
    have h2 : d.offCoord (ix3 b k e) 2 = e.val := rfl
    omega

theorem gatherP_apply {α : Type} (x : S32x8192.Idx → α) (idx : IVec S8192x1 32) (n : Fin 32) (k i : Fin 8192)
    (h : idx (ix2 k (0 : Fin 1)) = BitVec.ofNat 32 i.val) :
    Host.gather gather_S32x8192_S8192x1_S32x8192_0_1_n_n_1_1_321 x idx (ix2 n k) = x (ix2 n i) := by
  unfold Host.gather
  refine congrArg x (funext fun a => Fin.ext ?_)
  let d := gather_S32x8192_S8192x1_S32x8192_0_1_n_n_1_1_321
  have hs : ∀ c, d.siIdx (ix2 n k) c = ix2 k (0 : Fin 1) := fun c => by
    funext a
    refine Fin.ext ?_
    match a with
    | ⟨0, _⟩ => rfl
    | ⟨1, _⟩ => exact Nat.lt_one_iff.mp c.isLt
  match a with
  | ⟨0, _⟩ =>
    show d.start (ix2 n k) idx 0 + d.batchCoord (ix2 n k) 0 + d.offCoord (ix2 n k) 0 = n.val
    have h0 : d.start (ix2 n k) idx 0 = 0 := rfl
    have h1 : d.batchCoord (ix2 n k) 0 = 0 := rfl
    have h2 : d.offCoord (ix2 n k) 0 = n.val := rfl
    omega
  | ⟨1, _⟩ =>
    show d.start (ix2 n k) idx 1 + d.batchCoord (ix2 n k) 1 + d.offCoord (ix2 n k) 1 = i.val
    have h1 : d.start (ix2 n k) idx 1 = i.val := by
      unfold GatherDims.start
      rw [dif_pos (show (1 : Fin 2) ∈ d.startIndexMap from List.mem_singleton.mpr rfl), hs, h, toInt_small (by omega)]
      exact Nat.min_eq_left (by show i.val ≤ 8191; omega)
    rw [h1]
    rfl

/-! ## What is taken along the order -/

/-- The species at each place: the permuted atom's. -/
theorem takeS_apply (b : Fin 16) (k : Fin 512) : takeS sp (order sp) (ix2 b k) = sp (ix2 b (perm sp b k)) := by
  unfold takeS
  show Scalar.select (inside (idxS (order sp)) (ix2 b k)) (Host.gather gather_S16x512_S16x512x1_S16x512_n_1_0_0_1_2_11 sp (idxS (order sp)) (ix2 b k)) _ = _
  rw [inside_apply _ (fun b k e => ⟨_, idxS_apply sp b k e⟩), Scalar.select_of_eq_one (c := 1#1) rfl]
  exact gatherS_apply _ _ b k _ (idxS_apply sp b k 0)

variable {F : FTy → Type} [FloatOps F]

/-- The coordinates at each place: the permuted atom's. -/
theorem takeC_apply (x : FVec F S16x512x3 .f32) (b : Fin 16) (k : Fin 512) (e : Fin 3) :
    takeC x (order sp) (ix3 b k e) = x (ix3 b (perm sp b k) e) := by
  unfold takeC
  show Scalar.select (broadcastInDim S16x512x3 ![0, 1] bcast_S16x512_S16x512x3_0_1 (inside (idxC (order sp))) (ix3 b k e))
    (Host.gather gather_S16x512x3_S16x512x1_S16x512x3_2_1_0_0_1_2_113 x (idxC (order sp)) (ix3 b k e)) _ = _
  rw [show broadcastInDim S16x512x3 ![0, 1] bcast_S16x512_S16x512x3_0_1 (inside (idxC (order sp))) (ix3 b k e) = 1#1 from
      inside_apply _ (fun b k e => ⟨_, idxC_apply sp b k e⟩) _, Scalar.select_of_eq_one (c := 1#1) rfl]
  exact gatherC_apply _ _ b k _ e (idxC_apply sp b k 0)

/-- The encodings at each place: the permuted atom's. -/
theorem takeP_apply (p : FVec F S32x8192 .f32) (n : Fin 32) (b : Fin 16) (k : Fin 512) :
    takeP p (order sp) (ix2 n ⟨512 * b.val + k.val, by omega⟩) = p (ix2 n ⟨512 * b.val + (perm sp b k).val, by omega⟩) := by
  unfold takeP
  show Scalar.select (broadcastInDim S32x8192 ![1] bcast_S8192_S32x8192_1 (insideP (idxP (flat (order sp)))) (ix2 n ⟨512 * b.val + k.val, by omega⟩))
    (Host.gather gather_S32x8192_S8192x1_S32x8192_0_1_n_n_1_1_321 p (idxP (flat (order sp))) (ix2 n ⟨512 * b.val + k.val, by omega⟩)) _ = _
  rw [show broadcastInDim S32x8192 ![1] bcast_S8192_S32x8192_1 (insideP (idxP (flat (order sp)))) (ix2 n ⟨512 * b.val + k.val, by omega⟩) = 1#1 from
      insideP_apply _ (fun j e => by
        obtain ⟨b, k, rfl⟩ := split j
        exact ⟨⟨512 * b.val + (perm sp b k).val, by omega⟩, idxP_apply sp b k e⟩) _, Scalar.select_of_eq_one (c := 1#1) rfl]
  exact gatherP_apply _ _ n _ ⟨512 * b.val + (perm sp b k).val, by omega⟩ (idxP_apply sp b k 0)

end Cert.ReferenceIdeal.Order

end
-- ==== Proof.RefRead.lean ====
/- The reference's result at exact values: half the sum of the pairs' terms of each molecule's atoms, when every
   coordinate is a real number and every species is positive. -/
module

public import proofs.«01_k».proof.Proof.RefOrder
public import proofs.«01_k».proof.Proof.Energy
public import Idealize.ShloMosaic.Lib.IdealHost

@[expose] public section

set_option maxRecDepth 16384

noncomputable section

namespace Cert.ReferenceIdeal.Read

open Idealize.ShloMosaic Idealize.ShloMosaic.Pointwise Idealize.SL.Sem Cert.ReferenceIdeal Cert.ReferenceIdeal.Gen Cert.ReferenceIdeal.Terms
open Cert.ReferenceIdeal.Order Cert.Energy
open Facts

/-- The pattern of one billion. -/
theorem billion_eq : Ideal.ofBits .f32 0x4E6E6B28#32 = ((1000000000 : ℝ) : EReal) := by
  simp [Ideal.ofBits, Ideal.ieee, -EReal.coe_mul]; norm_num

/-- The pattern of one half. -/
theorem half_eq : Ideal.ofBits .f32 0x3F000000#32 = half := by
  unfold half
  simp [Ideal.ofBits, Ideal.ieee, -EReal.coe_mul]; norm_num

/-- An atom's features: its encoding times the weights. -/
theorem features_apply (p : FVec Ideal S32x8192 .f32) (w : FVec Ideal S32x64 .f32) (b : Fin 16) (k : Fin 512) (n : Fin 64) :
    features (F := Ideal) p w (ix3 b k n) = ∑ e : Fin 32, p (ix2 e ⟨512 * b.val + k.val, by omega⟩) * w (ix2 e n) := by
  pointwise [features]
  refine Finset.sum_congr rfl fun e _ => ?_
  congr 3
  exact Fin.ext (by show b.val * 512 + k.val = 512 * b.val + k.val; omega)

/-- A pair's overlap: the exponential of less the root of its guarded squared distance. -/
theorem overlap_apply (x : FVec Ideal S16x512x3 .f32) (b : Fin 16) (i j : Fin 512) (a : Fin 512 → Fin 3 → ℝ)
    (ha : ∀ i d, x (ix3 b i d) = (a i d : EReal)) :
    overlap (F := Ideal) (delta x) (ix3 b i j) = (ov (a i) (a j) : EReal) := by
  pointwise [overlap, delta]
  rw [billion_eq, Ideal.div_coe (by norm_num), one_mul]
  simp only [ha, Fin.sum_univ_three]
  exact exp_sqrt (a i) (a j)

/-- Zero on the diagonal, one off it. -/
theorem offDiag_apply (b : Fin 16) (i j : Fin 512) :
    offDiag (F := Ideal) (ix3 b i j) = if i = j then 0 else 1 := by
  pointwise [offDiag]
  have e : IntOp.cmpi .eq (IntOp.addi (BitVec.ofNat 32 i.val) 0#32) (BitVec.ofNat 32 j.val) = if i = j then 1#1 else 0#1 := by
    rw [IntOp.addi, BitVec.add_zero]
    by_cases h : i = j
    · rw [if_pos h, h, IntOp.cmpi_eq_self]
    · rw [if_neg h]
      have hne : BitVec.ofNat 32 i.val ≠ BitVec.ofNat 32 j.val := fun e => h (Fin.ext (by
        have := congrArg BitVec.toNat e
        rw [BitVec.toNat_ofNat, BitVec.toNat_ofNat, Nat.mod_eq_of_lt (by omega), Nat.mod_eq_of_lt (by omega)] at this
        exact this))
      show BitVec.ofBool (BitVec.ofNat 32 i.val == BitVec.ofNat 32 j.val) = 0#1
      rw [beq_eq_false_iff_ne.mpr hne]; rfl
  rw [e]
  by_cases h : i = j
  · rw [if_pos h, if_pos h]
    show (1 : EReal) - (((1#1 : BitVec 1).toNat : ℝ) : EReal) = 0
    rw [show (((1#1 : BitVec 1).toNat : ℝ) : EReal) = ((1 : ℝ) : EReal) by simp, show (1 : EReal) = ((1 : ℝ) : EReal) from rfl, ← EReal.coe_sub]
    simp
  · rw [if_neg h, if_neg h]
    show (1 : EReal) - (((0#1 : BitVec 1).toNat : ℝ) : EReal) = 1
    simp

/-- One where the species is at least one. -/
theorem present_apply (z : IVec S16x512 32) (b : Fin 16) (i : Fin 512) (h : IntOp.cmpi .sge (z (ix2 b i)) 1#32 = 1#1) :
    present (F := Ideal) z (ix2 b i) = 1 := by
  pointwise [present]
  have e : IntOp.cmpi .sgt (z (ix2 b i)) 0#32 = 1#1 := by
    have h' : (1#32).sle (z (ix2 b i)) = true := by
      by_contra hc
      rw [Bool.not_eq_true] at hc
      have : IntOp.cmpi .sge (z (ix2 b i)) 1#32 = BitVec.ofBool ((1#32).sle (z (ix2 b i))) := rfl
      rw [this, hc] at h
      exact absurd h (by decide)
    have h2 : (0#32).slt (z (ix2 b i)) = true := by
      rw [BitVec.sle_eq_decide, decide_eq_true_eq] at h'
      rw [BitVec.slt_eq_decide, decide_eq_true_eq]
      have e1 : (1#32).toInt = 1 := by decide
      have e0 : (0#32).toInt = 0 := by decide
      omega
    show BitVec.ofBool ((0#32).slt (z (ix2 b i))) = 1#1
    rw [h2]; rfl
  rw [e]
  show (((1#1 : BitVec 1).toNat : ℝ) : EReal) = 1
  simp

/-- The pair products of the features. -/
theorem pairs_apply (f : FVec Ideal S16x512x64 .f32) (b : Fin 16) (i j : Fin 512) :
    Host.dotGeneral (F := Ideal) dot_S16x512x64_S16x512x64_S16x512x512_2_2_1_1_0_0 none f f (ix3 b i j)
      = pairOf (fun i k => f (ix3 b i k)) i j := by
  pointwise
  rfl

/-- The product of two atoms' marks. -/
theorem both_apply (z : FVec Ideal S16x512 .f32) (b : Fin 16) (i j : Fin 512) :
    both (F := Ideal) z (ix3 b i j) = z (ix2 b i) * z (ix2 b j) := by
  pointwise [both]

/-- What a pair contributes is its term. -/
theorem pairTerms_apply (z : FVec Ideal S16x512 .f32) (x : FVec Ideal S16x512x3 .f32) (f : FVec Ideal S16x512x64 .f32)
    (b : Fin 16) (i j : Fin 512) (a : Fin 512 → Fin 3 → ℝ) (ha : ∀ i d, x (ix3 b i d) = (a i d : EReal))
    (hz : ∀ i, z (ix2 b i) = 1) :
    pairTerms (F := Ideal) z x f (ix3 b i j) = term (fun i k => f (ix3 b i k)) a i j := by
  show overlap (F := Ideal) (delta x) (ix3 b i j) * offDiag (F := Ideal) (ix3 b i j)
    * Host.dotGeneral (F := Ideal) dot_S16x512x64_S16x512x64_S16x512x512_2_2_1_1_0_0 none f f (ix3 b i j)
    * both (F := Ideal) z (ix3 b i j) = _
  rw [overlap_apply x b i j a ha, offDiag_apply, pairs_apply, both_apply, hz, hz, mul_one, mul_one, term]
  by_cases h : i = j
  · rw [if_pos h, if_pos h, mul_zero, zero_mul]
  · rw [if_neg h, if_neg h, mul_one]

/-- Half the sum over the pairs of a molecule. -/
theorem halfSum_apply (y : FVec Ideal S16x512x512 .f32) (b : Fin 16) :
    halfSum (F := Ideal) y (ix1 b) = half * ∑ i : Fin 512, ∑ j : Fin 512, y (ix3 b i j) := by
  pointwise [halfSum]
  rw [half_eq]

/-- The reference's result for molecule `b`: the order of its atoms does not matter. -/
theorem result_apply (p : FVec Ideal S32x8192 .f32) (sp : IVec S16x512 32) (x : FVec Ideal S16x512x3 .f32) (w : FVec Ideal S32x64 .f32)
    (b : Fin 16) (a : Fin 512 → Fin 3 → ℝ) (ha : ∀ i d, x (ix3 b i d) = (a i d : EReal))
    (hs : ∀ i, IntOp.cmpi .sge (sp (ix2 b i)) 1#32 = 1#1) :
    halfSum (F := Ideal) (pairTerms (present (takeS sp (order sp))) (takeC x (order sp)) (features (takeP p (order sp)) w)) (ix1 b)
      = energyOf (fun i n => ∑ k : Fin 32, p (ix2 k ⟨512 * b.val + i.val, by omega⟩) * w (ix2 k n)) a := by
  rw [halfSum_apply, ← energyOf_perm _ a (perm sp b) (perm_bijective sp b)]
  unfold energyOf
  refine congrArg (half * ·) (Finset.sum_congr rfl fun i _ => Finset.sum_congr rfl fun j _ => ?_)
  rw [pairTerms_apply _ _ _ b i j (fun i => a (perm sp b i)) (fun i d => (takeC_apply sp x b i d).trans (ha _ d))
    (fun i => present_apply _ b i (by rw [takeS_apply]; exact hs _))]
  refine congrArg (fun f => term f (fun i => a (perm sp b i)) i j) (funext fun i => funext fun n => ?_)
  rw [features_apply]
  exact Finset.sum_congr rfl fun k _ => by rw [takeP_apply]

end Cert.ReferenceIdeal.Read

end
-- ==== Proof.Algebraic.lean ====
/- The claims: what the precondition says of the arguments, the reference's frame, the named constants, and the
   equality of the two programs' results. -/
module

public import proofs.«01_k».proof.Defs
public import proofs.«01_k».proof.Proof.KernelRun
public import proofs.«01_k».proof.Proof.RefRead
public import proofs.«01_k».proof.Proof.Gen.Kernel.Frame
public import proofs.«01_k».proof.Proof.Gen.KernelIdeal.Frame

@[expose] public section

set_option maxRecDepth 16384

noncomputable section

namespace Cert.Algebraic

open Idealize.ShloMosaic Idealize.ShloMosaic.Pointwise Idealize.SL.Sem Cert.Energy

/-- The shape relations that the precondition's operations take. -/
theorem drawnFacts : Cert.Pre_drawn.Facts := ⟨by decide, by decide⟩

/-- The pattern of the infinity. -/
theorem inf_eq : Ideal.ofBits .f32 0x7F800000#32 = (⊤ : EReal) := by
  simp [Ideal.ofBits, Ideal.ieee]

/-- A comparison that answers one found its first value the smaller. -/
theorem lt_of_olt {x y : EReal} (h : Ideal.cmp .olt x y = 1#1) : x < y := by
  by_contra hn
  simp [Ideal.cmp, hn] at h

/-- An exact value of magnitude below the infinity is a real number. -/
theorem real_of_abs_lt {x : EReal} (h : max x (-x) < ⊤) : x = ((x.toReal : ℝ) : EReal) := by
  refine (EReal.coe_toReal ?_ ?_).symm
  · rintro rfl; simp at h
  · rintro rfl; simp at h

section Precondition
attribute [local instance] drawnFacts
variable (p : FVec Ideal Cert.Pre_drawn.S32x8192 .f32) (sp : IVec Cert.Pre_drawn.S16x512 32)
  (x : FVec Ideal Cert.Pre_drawn.S16x512x3 .f32) (w : FVec Ideal Cert.Pre_drawn.S32x64 .f32)

/-- Under the precondition every species is at least one. -/
theorem species_pos (h : (Cert.Pre_drawn.fn (F := Ideal) p sp x w).1 = fun _ => 1#1) (b : Fin 16) (i : Fin 512) :
    IntOp.cmpi .sge (sp (ix2 b i)) 1#32 = 1#1 :=
  congrFun h (ix2 b i)

/-- Under the precondition every coordinate is a real number. -/
theorem coords_real (h : (Cert.Pre_drawn.fn (F := Ideal) p sp x w).2 = fun _ => 1#1) (b : Fin 16) (i : Fin 512) (d : Fin 3) :
    x (ix3 b i d) = (((x (ix3 b i d)).toReal : ℝ) : EReal) := by
  have e : Ideal.cmp .olt (max (x (ix3 b i d)) (-x (ix3 b i d))) (Ideal.ofBits .f32 0x7F800000#32) = 1#1 :=
    congrFun h (ix3 b i d)
  rw [inf_eq] at e
  exact real_of_abs_lt (lt_of_olt e)

end Precondition

/-- The reference runs, its arguments stay and it declares no semaphore, so each counter is zero. -/
theorem frame_reference [Cert.ReferenceIdeal.Facts] : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each named constant is the value that its name stands for. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "guard" .f32 0x310F07D5#32
      (((1 / 1000000000) * ((Real.log 2)⁻¹ * (Real.log 2)⁻¹) : ℝ) : EReal) rfl⟩

/-- From arguments that agree, with species of at least one and real coordinates, the kernel's sixteen results are the
    reference's: each the energy of its molecule. -/
theorem algebraic : Cert.algebraic_KernelIdeal_ReferenceIdeal_pre_drawn (hPre_drawn := drawnFacts) := by
  intro m ρ m' ρ' hpre hagree
  let a : Dev Cert.KernelIdeal.nD → Fin 16 → Fin 512 → Fin 3 → ℝ := fun c b i d =>
    EReal.toReal (m ((c.tc : Thread Cert.KernelIdeal.nD Cert.KernelIdeal.τ).loc Cert.KernelIdeal.main_arg2) (ix3 b i d))
  have ha (c : Dev Cert.KernelIdeal.nD) (b : Fin 16) (i : Fin 512) (d : Fin 3) :
      m ((c.tc : Thread Cert.KernelIdeal.nD Cert.KernelIdeal.τ).loc Cert.KernelIdeal.main_arg2) (ix3 b i d) = (a c b i d : EReal) :=
    coords_real _ _ _ _ (hpre c).2 b i d
  let v (c : Dev Cert.KernelIdeal.nD) : FVec Ideal Cert.KernelIdeal.S16 .f32 := fun j =>
    energyOf (Cert.KernelIdeal.Launch.feat (m ((c.tc : Thread Cert.KernelIdeal.nD Cert.KernelIdeal.τ).loc Cert.KernelIdeal.main_arg0))
      (m ((c.tc : Thread Cert.KernelIdeal.nD Cert.KernelIdeal.τ).loc Cert.KernelIdeal.main_arg3)) (j 0)) (a c (j 0))
  have hix (j : Cert.KernelIdeal.S16.Idx) : j = ix1 (j 0 : Fin 16) := eq_ix1 j
  refine ⟨v, ?_, ?_⟩
  · refine (θ_run Cert.KernelIdeal.defs _ _).mono (fun _ h c => ⟨?_, (h c).2⟩) (Cert.KernelIdeal.Launch.run m ρ a ha)
    funext j
    rw [hix j]
    exact (h c).1 (j 0)
  · refine (θ_run Cert.ReferenceIdeal.defs _ _).mono (fun _ h c => ⟨(h c).1.trans ?_, (h c).2⟩)
      (Cert.ReferenceIdeal.Value.run (F := Ideal) m' ρ')
    rw [Cert.ReferenceIdeal.Terms.res_eq, (hagree c).1, (hagree c).2.1, (hagree c).2.2.1, (hagree c).2.2.2]
    funext j
    rw [hix j]
    exact Cert.ReferenceIdeal.Read.result_apply _ _ _ _ (j 0) (a c (j 0)) (ha c (j 0)) (species_pos _ _ _ _ (hpre c).1 (j 0))

end Cert.Algebraic

end
-- ==== Proof.lean ====
/- The proof of the claim: the three frames, the named constants and the equality of the results, put together. -/
module

public import proofs.«01_k».proof.Defs
public import proofs.«01_k».proof.Proof.Algebraic
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

/-- The kernel, its idealization and the reference run, leave their arguments as they were and every semaphore at
    zero; each named constant is what its name says; and at exact values the kernel's results are the reference's. -/
theorem claim : Cert.Claim :=
  ⟨Cert.Kernel.Gen.facts, Cert.KernelIdeal.Gen.facts, Cert.ReferenceIdeal.Gen.facts, Algebraic.drawnFacts,
    fun m ρ _ => Cert.Kernel.Gen.frame m ρ, fun m ρ _ => Cert.KernelIdeal.Gen.frame m ρ,
    fun m ρ _ => Cert.KernelIdeal.Gen.frame m ρ, Algebraic.frame_reference,
    fun m ρ _ => Algebraic.frame_reference m ρ trivial, Algebraic.preserves, Algebraic.algebraic⟩

end Cert.Proof

end
